-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v20_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x5120 : Shape := ⟨3, ![24, 1, 5120]⟩
abbrev S5120x2560 : Shape := ⟨2, ![5120, 2560]⟩
abbrev S5120 : Shape := ⟨1, ![5120]⟩
abbrev S24x5120 : Shape := ⟨2, ![24, 5120]⟩
abbrev S1x5120 : Shape := ⟨2, ![1, 5120]⟩
abbrev S24x1 : Shape := ⟨2, ![24, 1]⟩
abbrev S512x2560 : Shape := ⟨2, ![512, 2560]⟩
abbrev S1x512 : Shape := ⟨2, ![1, 512]⟩
abbrev S24x512 : Shape := ⟨2, ![24, 512]⟩
abbrev S24x128 : Shape := ⟨2, ![24, 128]⟩
abbrev S24 : Shape := ⟨1, ![24]⟩
abbrev S2560x512 : Shape := ⟨2, ![2560, 512]⟩
abbrev S640x512 : Shape := ⟨2, ![640, 512]⟩
abbrev S24x2560 : Shape := ⟨2, ![24, 2560]⟩

abbrev nBuf : Space → Nat
  | .hbm => 10
  | .vmem => 11
  | .smem => 0
  | _ => 0

abbrev bufTy : (tb : Table) → Fin (tcTables nBuf tb) → BufTy
  | .hbm, ⟨0, _⟩ => ⟨S24x1x5120, .bf16⟩
  | .hbm, ⟨1, _⟩ => ⟨S5120x2560, .i8⟩
  | .hbm, ⟨2, _⟩ => ⟨S5120, .f32⟩
  | .hbm, ⟨3, _⟩ => ⟨S24x5120, .bf16⟩
  | .hbm, ⟨4, _⟩ => ⟨S1x5120, .f32⟩
  | .hbm, ⟨5, _⟩ => ⟨S24x5120, .bf16⟩
  | .hbm, ⟨6, _⟩ => ⟨S24x5120, .i8⟩
  | .hbm, ⟨7, _⟩ => ⟨S24x1, .f32⟩
  | .hbm, ⟨8, _⟩ => ⟨S24x1x5120, .bf16⟩
  | .hbm, ⟨9, _⟩ => ⟨S24x1x5120, .i8⟩
  | .local _ .vmem, ⟨0, _⟩ => ⟨S24x5120, .bf16⟩
  | .local _ .vmem, ⟨1, _⟩ => ⟨S512x2560, .i8⟩
  | .local _ .vmem, ⟨2, _⟩ => ⟨S512x2560, .i8⟩
  | .local _ .vmem, ⟨3, _⟩ => ⟨S1x512, .f32⟩
  | .local _ .vmem, ⟨4, _⟩ => ⟨S1x512, .f32⟩
  | .local _ .vmem, ⟨5, _⟩ => ⟨S24x512, .bf16⟩
  | .local _ .vmem, ⟨6, _⟩ => ⟨S24x512, .bf16⟩
  | .local _ .vmem, ⟨7, _⟩ => ⟨S24x5120, .i8⟩
  | .local _ .vmem, ⟨8, _⟩ => ⟨S24x1, .f32⟩
  | .local _ .vmem, ⟨9, _⟩ => ⟨S24x5120, .bf16⟩
  | .local _ .vmem, ⟨10, _⟩ => ⟨S24x1, .f32⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x5120 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S24x1x5120 : Shape := ⟨3, ![24, 1, 5120]⟩
abbrev S5120x2560 : Shape := ⟨2, ![5120, 2560]⟩
abbrev S5120 : Shape := ⟨1, ![5120]⟩
abbrev S40x40 : Shape := ⟨2, ![40, 40]⟩
abbrev S24x1x40x128 : Shape := ⟨4, ![24, 1, 40, 128]⟩
abbrev S40x24x1x128 : Shape := ⟨4, ![40, 24, 1, 128]⟩
abbrev S_ : Shape := ⟨0, ![]⟩
abbrev S24x1 : Shape := ⟨2, ![24, 1]⟩
abbrev S24x1x1 : Shape := ⟨3, ![24, 1, 1]⟩
abbrev S24x1x2560 : Shape := ⟨3, ![24, 1, 2560]⟩
abbrev S1x1x5120 : Shape := ⟨3, ![1, 1, 5120]⟩

abbrev nBuf : Space → Nat
  | .hbm => 80
  | .vmem => 0
  | .smem => 0
  | _ => 0

abbrev bufTy : (tb : Table) → Fin (tcTables nBuf tb) → BufTy
  | .hbm, ⟨0, _⟩ => ⟨S24x1x5120, .bf16⟩
  | .hbm, ⟨1, _⟩ => ⟨S5120x2560, .i8⟩
  | .hbm, ⟨2, _⟩ => ⟨S5120, .f32⟩
  | .hbm, ⟨3, _⟩ => ⟨S40x40, .f32⟩
  | .hbm, ⟨4, _⟩ => ⟨S24x1x40x128, .bf16⟩
  | .hbm, ⟨5, _⟩ => ⟨S24x1x40x128, .f32⟩
  | .hbm, ⟨6, _⟩ => ⟨S40x24x1x128, .f32⟩
  | .hbm, ⟨7, _⟩ => ⟨S24x1x40x128, .f32⟩
  | .hbm, ⟨8, _⟩ => ⟨S_, .f32⟩
  | .hbm, ⟨9, _⟩ => ⟨S24x1x40x128, .f32⟩
  | .hbm, ⟨10, _⟩ => ⟨S24x1x40x128, .f32⟩
  | .hbm, ⟨11, _⟩ => ⟨S24x1x5120, .f32⟩
  | .hbm, ⟨12, _⟩ => ⟨S24x1x5120, .f32⟩
  | .hbm, ⟨13, _⟩ => ⟨S_, .f32⟩
  | .hbm, ⟨14, _⟩ => ⟨S24x1, .f32⟩
  | .hbm, ⟨15, _⟩ => ⟨S_, .f32⟩
  | .hbm, ⟨16, _⟩ => ⟨S24x1, .f32⟩
  | .hbm, ⟨17, _⟩ => ⟨S24x1, .i1⟩
  | .hbm, ⟨18, _⟩ => ⟨S_, .f32⟩
  | .hbm, ⟨19, _⟩ => ⟨S24x1, .f32⟩
  | .hbm, ⟨20, _⟩ => ⟨S24x1, .f32⟩
  | .hbm, ⟨21, _⟩ => ⟨S_, .f32⟩
  | .hbm, ⟨22, _⟩ => ⟨S_, .f32⟩
  | .hbm, ⟨23, _⟩ => ⟨S24x1, .f32⟩
  | .hbm, ⟨24, _⟩ => ⟨S24x1, .f32⟩
  | .hbm, ⟨25, _⟩ => ⟨S24x1x1, .f32⟩
  | .hbm, ⟨26, _⟩ => ⟨S24x1x5120, .f32⟩
  | .hbm, ⟨27, _⟩ => ⟨S24x1x5120, .f32⟩
  | .hbm, ⟨28, _⟩ => ⟨S24x1x5120, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S24x1x5120, .f32⟩
  | .hbm, ⟨33, _⟩ => ⟨S24x1x5120, .f32⟩
  | .hbm, ⟨34, _⟩ => ⟨S_, .f32⟩
  | .hbm, ⟨35, _⟩ => ⟨S24x1x5120, .f32⟩
  | .hbm, ⟨36, _⟩ => ⟨S24x1x5120, .f32⟩
  | .hbm, ⟨37, _⟩ => ⟨S24x1x5120, .i32⟩
  | .hbm, ⟨38, _⟩ => ⟨S24x1x5120, .i32⟩
  | .hbm, ⟨39, _⟩ => ⟨S24x1, .f32⟩
  | .hbm, ⟨40, _⟩ => ⟨S5120x2560, .i32⟩
  | .hbm, ⟨41, _⟩ => ⟨S_, .i32⟩
  | .hbm, ⟨42, _⟩ => ⟨S5120x2560, .i32⟩
  | .hbm, ⟨43, _⟩ => ⟨S5120x2560, .i32⟩
  | .hbm, ⟨44, _⟩ => ⟨S_, .i32⟩
  | .hbm, ⟨45, _⟩ => ⟨S5120x2560, .i32⟩
  | .hbm, ⟨46, _⟩ => ⟨S5120x2560, .i1⟩
  | .hbm, ⟨47, _⟩ => ⟨S5120x2560, .i32⟩
  | .hbm, ⟨48, _⟩ => ⟨S_, .i32⟩
  | .hbm, ⟨49, _⟩ => ⟨S5120x2560, .i32⟩
  | .hbm, ⟨50, _⟩ => ⟨S5120x2560, .i32⟩
  | .hbm, ⟨51, _⟩ => ⟨S5120x2560, .i32⟩
  | .hbm, ⟨52, _⟩ => ⟨S5120x2560, .bf16⟩
  | .hbm, ⟨53, _⟩ => ⟨S5120x2560, .i32⟩
  | .hbm, ⟨54, _⟩ => ⟨S_, .i32⟩
  | .hbm, ⟨55, _⟩ => ⟨S5120x2560, .i32⟩
  | .hbm, ⟨56, _⟩ => ⟨S5120x2560, .i32⟩
  | .hbm, ⟨57, _⟩ => ⟨S_, .i32⟩
  | .hbm, ⟨58, _⟩ => ⟨S5120x2560, .i32⟩
  | .hbm, ⟨59, _⟩ => ⟨S5120x2560, .i1⟩
  | .hbm, ⟨60, _⟩ => ⟨S5120x2560, .i32⟩
  | .hbm, ⟨61, _⟩ => ⟨S_, .i32⟩
  | .hbm, ⟨62, _⟩ => ⟨S5120x2560, .i32⟩
  | .hbm, ⟨63, _⟩ => ⟨S5120x2560, .i32⟩
  | .hbm, ⟨64, _⟩ => ⟨S5120x2560, .i32⟩
  | .hbm, ⟨65, _⟩ => ⟨S5120x2560, .bf16⟩
  | .hbm, ⟨66, _⟩ => ⟨S24x1x5120, .bf16⟩
  | .hbm, ⟨67, _⟩ => ⟨S24x1x2560, .bf16⟩
  | .hbm, ⟨68, _⟩ => ⟨S24x1x5120, .f32⟩
  | .hbm, ⟨69, _⟩ => ⟨S24x1x2560, .bf16⟩
  | .hbm, ⟨70, _⟩ => ⟨S24x1x5120, .f32⟩
  | .hbm, ⟨71, _⟩ => ⟨S24x1x5120, .f32⟩
  | .hbm, ⟨72, _⟩ => ⟨S24x1x1, .f32⟩
  | .hbm, ⟨73, _⟩ => ⟨S24x1x5120, .f32⟩
  | .hbm, ⟨74, _⟩ => ⟨S24x1x5120, .f32⟩
  | .hbm, ⟨75, _⟩ => ⟨S1x1x5120, .f32⟩
  | .hbm, ⟨76, _⟩ => ⟨S24x1x5120, .f32⟩
  | .hbm, ⟨77, _⟩ => ⟨S24x1x5120, .f32⟩
  | .hbm, ⟨78, _⟩ => ⟨S24x1x5120, .bf16⟩
  | .hbm, ⟨79, _⟩ => ⟨S24x1x5120, .i8⟩
  | _, _ => ⟨S24x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Proof.Setup.lean ====
/- What the two runs of the kernel's body share: the branch condition on the grid point in closed form, the staging
   and scratch memrefs by name, and the launch's invariant with the two scratch buffers as memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's only branch: the grid point is the first. -/
abbrev cond0 (i : grid0.Coords) : Prop := k0_cond1 i = 1#1

/-- The branch is taken at the first grid point and at no other. -/
theorem hcond0 : ∀ t : Fin cfg0.N, cond0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0, k0_cond1, e0]
    word_cmp
   : ∀ t : Fin grid0.N, cond0 (grid0.coords t) ↔ t.val % 10 = 0)

/-- Each window's current staging memref at point `t`, and that it is a whole buffer. -/
abbrev ms0_0 (t : Fin cfg0.N) : Memref sig .tc .vmem S24x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S24x5120 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x1 .f32 := win0_5.stage (cfg0.slots t 5)
abbrev hs0_5 (t : Fin cfg0.N) : (ms0_5 t).IsWhole := hstage0_5 ((cfg0.slots t 5).cast nbuf0_5)
/-- The scratch operands: the quantised codes as the matrix product's left operand, and the codes' row sums. -/
abbrev scM0_0 : Memref sig .tc .vmem S24x5120 .bf16 := Memref.whole cc0_scratch0
abbrev scM0_1 : Memref sig .tc .vmem S24x1 .f32 := Memref.whole cc0_scratch1

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The inputs' windows and the result's window are live at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

end Cert.KernelIdeal.Hand

end
-- ==== Proof.Named.lean ====
/- The quantities the kernel's first step computes, by name: the heads of the input, the order-20 Paley transform in
   the kernel's own grouping, the rotated heads, the scale of a row, the integer codes and their sum; and the block of
   the result. Each is a function of whole vectors, over any interpretation of the float operations. -/
module

public import proofs.«01_k».proof.Proof.Setup
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-! ## The Paley transform of order 20, over any operations -/

/-- The nonzero squares modulo 19. -/
def isSquare19 : ℕ → Bool
  | 1 => true | 4 => true | 5 => true | 6 => true | 7 => true | 9 => true | 11 => true | 16 => true | 17 => true
  | _ => false

/-- The sign of entry `(i, j)` of the Paley matrix of order 20; `true` is plus one. -/
def paleySign (i j : ℕ) : Bool :=
  i == j || i == 0 || (!(j == 0) && isSquare19 ((j + 19 - i) % 19))

section Paley

variable {α : Type} (add sub : α → α → α) (neg : α → α)

/-- Four values combined with signs `1, sb, sc, sc * sd`. -/
def quad (a b c d : α) (sb sc sd : Bool) : α :=
  cond sc (add (cond sb (add a b) (sub a b)) (cond sd (add c d) (sub c d)))
    (sub (cond sb (add a b) (sub a b)) (cond sd (add c d) (sub c d)))

/-- The group of four values `g` of `x`, signed as column `q` of the matrix signs it relative to the group's first. -/
def paleyGroup (x : Fin 20 → α) (q : ℕ) (g : Fin 5) : α :=
  quad add sub (x ⟨4 * g, by omega⟩) (x ⟨4 * g + 1, by omega⟩) (x ⟨4 * g + 2, by omega⟩) (x ⟨4 * g + 3, by omega⟩)
    (paleySign (4 * g) q == paleySign (4 * g + 1) q) (paleySign (4 * g) q == paleySign (4 * g + 2) q)
    (paleySign (4 * g + 2) q == paleySign (4 * g + 3) q)

/-- One more group joined to a total that carries the sign of the first group. -/
def paleyJoin (x : Fin 20 → α) (q : ℕ) (t : α) (g : Fin 5) : α :=
  cond (paleySign (4 * g) q == paleySign 0 q) (add t (paleyGroup add sub x q g)) (sub t (paleyGroup add sub x q g))

/-- Column `q` of the transform of `x`: the five groups joined, and negated if the first group's sign is minus. -/
def paley (x : Fin 20 → α) (q : ℕ) : α :=
  cond (paleySign 0 q)
    (paleyJoin add sub x q (paleyJoin add sub x q (paleyJoin add sub x q (paleyJoin add sub x q
      (paleyGroup add sub x q 0) 1) 2) 3) 4)
    (neg (paleyJoin add sub x q (paleyJoin add sub x q (paleyJoin add sub x q (paleyJoin add sub x q
      (paleyGroup add sub x q 0) 1) 2) 3) 4))

end Paley

/-- The pairwise tree that folds forty values, as the kernel folds them. -/
def tree40 {α : Type} (op : α → α → α) (v : Fin 40 → α) : α :=
  op (op (op (op (op (op (v 0) (v 1)) (op (v 2) (v 3))) (op (op (v 4) (v 5)) (op (v 6) (v 7))))
        (op (op (op (v 8) (v 9)) (op (v 10) (v 11))) (op (op (v 12) (v 13)) (op (v 14) (v 15)))))
      (op (op (op (op (v 16) (v 17)) (op (v 18) (v 19))) (op (op (v 20) (v 21)) (op (v 22) (v 23))))
        (op (op (op (v 24) (v 25)) (op (v 26) (v 27))) (op (op (v 28) (v 29)) (op (v 30) (v 31))))))
    (op (op (op (v 32) (v 33)) (op (v 34) (v 35))) (op (op (v 36) (v 37)) (op (v 38) (v 39))))

/-- `n` values added one after the other onto `z`, as the kernel adds its forty. -/
def chain {α : Type} (add : α → α → α) (z : α) : (n : ℕ) → (Fin n → α) → α
  | 0, _ => z
  | n + 1, v => add (chain add z n fun h => v h.castSucc) (v (Fin.last n))

variable {F : FTy → Type} [FloatOps F]

/-- Head `h` of the input: its 128 columns. -/
def headV (x : Vec F S24x5120 .bf16) (h : Fin 40) : FVec F S24x128 .f32 :=
  extf .f32 (extractStridedSlice S24x128 ![0, 128 * h.val]
    (shapeCast S24x5120 x shapeCasts_S24x5120_S24x5120 : FVec F S24x5120 .bf16)
    (by obtain ⟨h, hh⟩ := h
        refine ⟨rfl, fun a => ?_⟩
        fin_cases a
        · show 0 + 24 ≤ 24; omega
        · show 128 * h + 128 ≤ 5120; omega)) bitsLt_bf16_f32

/-- Rotated head `h`, before the normalisation: the Paley transform of the sums of the two halves' heads, then of
    their differences. -/
def rotV (x : Vec F S24x5120 .bf16) (h : Fin 40) : FVec F S24x128 .f32 :=
  cond (Nat.blt h.val 20)
    (paley addf subf negf (fun p => addf (headV x ⟨p.val, by omega⟩) (headV x ⟨p.val + 20, by omega⟩)) h.val)
    (paley addf subf negf (fun p => subf (headV x ⟨p.val, by omega⟩) (headV x ⟨p.val + 20, by omega⟩)) (h.val - 20))

/-- Rotated head `h`. -/
def zV (x : Vec F S24x5120 .bf16) (h : Fin 40) : FVec F S24x128 .f32 :=
  mulf (rotV x h) (broadcast S24x128 (Scalar.ofBits .f32 0x3E21E89B#32 : F .f32))

/-- The largest magnitude of each row of forty heads. -/
def amaxOf (z : Fin 40 → FVec F S24x128 .f32) : FVec F S24x1 .f32 :=
  shapeCast S24x1 (multiReduction .maximumf [1] S24 (tree40 maximumf fun h => absf (z h)) 0xFF800000#32
    reduces_S24x128_S24 (.inl rfl) rfl) shapeCasts_S24_S24x1

/-- The scale of each row: a seventh of the largest magnitude, or one where that is zero. -/
def scaleOf (z : Fin 40 → FVec F S24x128 .f32) : FVec F S24x1 .f32 :=
  select (cmpf .ogt (amaxOf z) (broadcast S24x1 (Scalar.ofBits .f32 0x00000000#32 : F .f32)))
    (divf (amaxOf z) (broadcast S24x1 (Scalar.ofBits .f32 0x40E00000#32 : F .f32)))
    (broadcast S24x1 (Scalar.ofBits .f32 0x3F800000#32 : F .f32))

/-- The codes of one head at a scale: the quotients rounded to nearest even and clipped to seven. -/
def codeOf (z : FVec F S24x128 .f32) (s : FVec F S24x1 .f32) : FVec F S24x128 .f32 :=
  minimumf (broadcast S24x128 (Scalar.sitofp .f32 7#32 : F .f32))
    (maximumf (broadcast S24x128 (Scalar.sitofp .f32 4294967289#32 : F .f32))
      (roundeven (divf z (broadcastTo S24x128 s broadcasts_S24x1_S24x128))))

/-- The sum of each row's codes. -/
def sumOf (v : Fin 40 → FVec F S24x128 .f32) : FVec F S24x1 .f32 :=
  shapeCast S24x1 (shapeCast S24x1 (multiReduction .add [1] S24
    (chain addf (broadcast S24x128 (Scalar.ofBits .f32 0x00000000#32 : F .f32)) 40 v) 0x00000000#32
    reduces_S24x128_S24 (.inl rfl) rfl) shapeCasts_S24_S24x1) shapeCasts_S24x1_S24x1

/-- An index of the forty heads' columns, within its head. -/
def inHead (i : S24x5120.Idx) : S24x128.Idx :=
  Shape.pair (d := ![24, 128]) (i 0) ⟨(i 1).val % 128, Nat.mod_lt _ (by decide)⟩

/-- Forty blocks of 128 columns laid side by side. -/
def sideBySide {e : EltTy} (v : Fin 40 → Vec F S24x128 e) : Vec F S24x5120 e :=
  fun i => v ⟨(i 1).val / 128, by have : (i 1).val < 5120 := (i 1).isLt; omega⟩ (inHead i)

theorem heads_inb {n : ℕ} (h : n < 40) : ∀ a, (![0, 128 * n] : Fin S24x5120.rank → ℕ) a + S24x128.size a ≤ S24x5120.size a := by
  intro a
  fin_cases a
  · show 0 + 24 ≤ 24; omega
  · show 128 * n + 128 ≤ 5120; omega

/-- The stores of the first `n` of forty blocks side by side, the last first. -/
def headPieces {e : EltTy} (v : Fin 40 → Vec F S24x128 e) : (n : ℕ) → n ≤ 40 → List (View.Piece (Elt F) S24x5120 e)
  | 0, _ => []
  | n + 1, h => ⟨Rect.unit ![0, 128 * n] S24x128.size (heads_inb (by omega)), v ⟨n, by omega⟩⟩ :: headPieces v n (by omega)

/-- Each of those stores has the values of the blocks laid side by side. -/
theorem headPieces_allAt {e : EltTy} (v : Fin 40 → Vec F S24x128 e) (y : S24x5120.Idx) :
    ∀ (n : ℕ) (h : n ≤ 40), View.AllAt (headPieces v n h) y (sideBySide v y)
  | 0, _ => View.allAt_nil _ _
  | n + 1, h => by
    refine View.allAt_cons_unit _ _ _ _ _ (fun x hx => ?_) (headPieces_allAt v y n (by omega))
    have h0 : (y 0).val = 0 + (x 0).val := hx 0
    have h1 : (y 1).val = 128 * n + (x 1).val := hx 1
    have hx1 : (x 1).val < 128 := (x 1).isLt
    have e1 : (⟨n, by omega⟩ : Fin 40) = ⟨(y 1).val / 128, by omega⟩ := Fin.ext (by show n = (y 1).val / 128; omega)
    have e2 : (x : S24x128.Idx) = inHead y := by
      funext a
      fin_cases a
      · exact Fin.ext (by show (x 0).val = (y 0).val; omega)
      · exact Fin.ext (by show (x 1).val = (y 1).val % 128; omega)
    show v ⟨n, _⟩ x = _
    unfold sideBySide
    rw [e1]
    exact congrArg _ e2

/-- The first `n` stores hold every index of the first `128 n` columns. -/
theorem headPieces_cover {e : EltTy} (v : Fin 40 → Vec F S24x128 e) (y : S24x5120.Idx) :
    ∀ (n : ℕ) (h : n ≤ 40), (y 1).val < 128 * n → ∃ p ∈ headPieces v n h, y ∈ p.1.set
  | 0, _, hy => absurd hy (by omega)
  | n + 1, h, hy => by
    by_cases hn : (y 1).val < 128 * n
    · obtain ⟨p, hp, hyp⟩ := headPieces_cover v y n (by omega) hn
      exact ⟨p, List.mem_cons_of_mem _ hp, hyp⟩
    · refine ⟨_, List.mem_cons_self, (Rect.mem_set_unit (inb := heads_inb (by omega))).mpr fun a => ?_⟩
      fin_cases a
      · exact ⟨Nat.zero_le _, by show (y 0).val < 0 + 24; have : (y 0).val < 24 := (y 0).isLt; omega⟩
      · exact ⟨by show 128 * n ≤ (y 1).val; omega, by show (y 1).val < 128 * n + 128; omega⟩

/-- All forty stores leave the blocks laid side by side. -/
theorem canon_headPieces {e : EltTy} (v : Fin 40 → Vec F S24x128 e) :
    View.canon (headPieces v 40 (le_refl _)) = sideBySide v := by
  funext y
  have hy : (y 1).val < 5120 := (y 1).isLt
  exact View.canon_eq_of_allAt _ _ _ (headPieces_cover v y 40 _ (by omega)) (headPieces_allAt v y 40 _)

/-- The scale of the input's rows. -/
def scaleV (x : Vec F S24x5120 .bf16) : FVec F S24x1 .f32 := scaleOf (zV x)
/-- The codes of head `h`. -/
def codeV (x : Vec F S24x5120 .bf16) (h : Fin 40) : FVec F S24x128 .f32 := codeOf (zV x h) (scaleV x)
/-- The sum of each row's codes. -/
def sumV (x : Vec F S24x5120 .bf16) : FVec F S24x1 .f32 := sumOf (codeV x)
/-- The codes as the matrix product's left operand. -/
def lhsV (x : Vec F S24x5120 .bf16) : Vec F S24x5120 .bf16 :=
  sideBySide (e := .bf16) fun h => shapeCast S24x128 (truncf .bf16 (codeV x h) bitsLt_bf16_f32 : FVec F S24x128 .bf16) shapeCasts_S24x128_S24x128
/-- The codes as eight-bit integers. -/
def codesV (x : Vec F S24x5120 .bf16) : Vec F S24x5120 .i8 :=
  sideBySide (e := .i8) fun h => (fptosi 8 (codeV x h) : IVec S24x128 8)

/-- One block of the result, from the left operand, the sums, the scales, the block's packed weights and the weights'
    scales. -/
def outV (L : Vec F S24x5120 .bf16) (S : Vec F S24x1 .f32) (s : Vec F S24x1 .f32) (w : Vec F S512x2560 .i8) (ws : Vec F S1x512 .f32) :
    Vec F S24x512 .bf16 :=
  k0_pay1 (k0_pay435 w (View.ld (Val := Elt F) (e' := .bf16) L (Rect.unit ![0, 0] S24x2560.size inb_S24x5120_S24x2560_0_0))
    (View.ld (Val := Elt F) (e' := .bf16) L (Rect.unit ![0, 2560] S24x2560.size inb_S24x5120_S24x2560_0_2560)) S s ws)

end Cert.KernelIdeal.Hand

end
-- ==== Proof.RunFirst.lean ====
/- The kernel's body at its first grid point: what it leaves in every buffer. -/
module

public import proofs.«01_k».proof.Proof.Named

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first grid point, where its branch is taken: from the input block `x0`, a block `x1` of packed
    weights and their scales `x2`, it leaves the input buffers as they were, the codes, the scales, the two scratch
    buffers and the block of the result at their named values. -/
theorem runFirst (c : Dev nD) (i : grid0.Coords) (arg1 : Memref sig .tc .vmem S24x5120 .bf16) (harg1 : arg1.IsWhole) (arg2 : Memref sig .tc .vmem S512x2560 .i8) (harg2 : arg2.IsWhole) (arg3 : Memref sig .tc .vmem S1x512 .f32) (harg3 : arg3.IsWhole) (arg4 : Memref sig .tc .vmem S24x512 .bf16) (harg4 : arg4.IsWhole) (arg5 : Memref sig .tc .vmem S24x5120 .i8) (harg5 : arg5.IsWhole) (arg6 : Memref sig .tc .vmem S24x1 .f32) (harg6 : arg6.IsWhole) (arg7 : Memref sig .tc .vmem S24x5120 .bf16) (harg7 : arg7.IsWhole) (arg8 : Memref sig .tc .vmem S24x1 .f32) (harg8 : arg8.IsWhole) (hc0 : cond0 i)
    (x0 : Vec F S24x5120 .bf16) (x1 : Vec F S512x2560 .i8) (x2 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (outV (lhsV x0) (sumV x0) (scaleV x0) x1 x2) ∗ owns (c : Thread nD τ) arg5 fullShare (codesV x0) ∗ owns (c : Thread nD τ) arg6 fullShare (scaleV x0) ∗ owns (c : Thread nD τ) arg7 fullShare (lhsV x0) ∗ owns (c : Thread nD τ) arg8 fullShare (sumV x0)) -∗ K ⟨⟩))
          ⊢ wp frame (wpE (defs₀ (F := F)) Variants.none c none) E (cc0_quarot_oproj i arg1 harg1 arg2 harg2 arg3 harg3 arg4 harg4 arg5 harg5 arg6 harg6 arg7 harg7 arg8 harg8) K := by
    intro E K
    simp only [cc0_quarot_oproj_eq_skeleton]; unfold cc0_quarot_oproj_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    -- what the run loaded, then its named values in their order: the rotated heads, the scale, the codes, the sums
    have hx : View.readAt (Elt F) arg1.view (Rect.unit ![0, 0] S24x5120.size inb_S24x5120_S24x5120_0_0).toLoadRect (harg1.unread x0) = x0 := by
      rw [View.readAt_eq_ld, harg1.read_unread, View.ld_unit_zero (by decide)]
    have hz : ((![runFirst.sl.r_184 c arg1 harg1 x0, runFirst.sl.r_185 c arg1 harg1 x0, runFirst.sl.r_186 c arg1 harg1 x0, runFirst.sl.r_187 c arg1 harg1 x0, runFirst.sl.r_188 c arg1 harg1 x0, runFirst.sl.r_189 c arg1 harg1 x0, runFirst.sl.r_190 c arg1 harg1 x0, runFirst.sl.r_191 c arg1 harg1 x0, runFirst.sl.r_192 c arg1 harg1 x0, runFirst.sl.r_193 c arg1 harg1 x0, runFirst.sl.r_194 c arg1 harg1 x0, runFirst.sl.r_195 c arg1 harg1 x0, runFirst.sl.r_196 c arg1 harg1 x0, runFirst.sl.r_197 c arg1 harg1 x0, runFirst.sl.r_198 c arg1 harg1 x0, runFirst.sl.r_199 c arg1 harg1 x0, runFirst.sl.r_200 c arg1 harg1 x0, runFirst.sl.r_201 c arg1 harg1 x0, runFirst.sl.r_202 c arg1 harg1 x0, runFirst.sl.r_203 c arg1 harg1 x0, runFirst.sl.r_204 c arg1 harg1 x0, runFirst.sl.r_205 c arg1 harg1 x0, runFirst.sl.r_206 c arg1 harg1 x0, runFirst.sl.r_207 c arg1 harg1 x0, runFirst.sl.r_208 c arg1 harg1 x0, runFirst.sl.r_209 c arg1 harg1 x0, runFirst.sl.r_210 c arg1 harg1 x0, runFirst.sl.r_211 c arg1 harg1 x0, runFirst.sl.r_212 c arg1 harg1 x0, runFirst.sl.r_213 c arg1 harg1 x0, runFirst.sl.r_214 c arg1 harg1 x0, runFirst.sl.r_215 c arg1 harg1 x0, runFirst.sl.r_216 c arg1 harg1 x0, runFirst.sl.r_217 c arg1 harg1 x0, runFirst.sl.r_218 c arg1 harg1 x0, runFirst.sl.r_219 c arg1 harg1 x0, runFirst.sl.r_220 c arg1 harg1 x0, runFirst.sl.r_221 c arg1 harg1 x0, runFirst.sl.r_222 c arg1 harg1 x0, runFirst.sl.r_223 c arg1 harg1 x0] : Fin 40 → FVec F S24x128 .f32)) = zV (View.readAt (Elt F) arg1.view (Rect.unit ![0, 0] S24x5120.size inb_S24x5120_S24x5120_0_0).toLoadRect (harg1.unread x0)) := by
      funext h
      fin_cases h <;> rfl
    rw [hx] at hz
    have hs : runFirst.sl.r_244 c arg1 harg1 x0 = scaleV x0 := by
      unfold scaleV
      rw [← hz]
      rfl
    have hcode : ((![runFirst.sl.r_245 c arg1 harg1 x0, runFirst.sl.r_246 c arg1 harg1 x0, runFirst.sl.r_247 c arg1 harg1 x0, runFirst.sl.r_248 c arg1 harg1 x0, runFirst.sl.r_250 c arg1 harg1 x0, runFirst.sl.r_251 c arg1 harg1 x0, runFirst.sl.r_252 c arg1 harg1 x0, runFirst.sl.r_253 c arg1 harg1 x0, runFirst.sl.r_254 c arg1 harg1 x0, runFirst.sl.r_256 c arg1 harg1 x0, runFirst.sl.r_257 c arg1 harg1 x0, runFirst.sl.r_258 c arg1 harg1 x0, runFirst.sl.r_259 c arg1 harg1 x0, runFirst.sl.r_260 c arg1 harg1 x0, runFirst.sl.r_261 c arg1 harg1 x0, runFirst.sl.r_262 c arg1 harg1 x0, runFirst.sl.r_263 c arg1 harg1 x0, runFirst.sl.r_264 c arg1 harg1 x0, runFirst.sl.r_265 c arg1 harg1 x0, runFirst.sl.r_266 c arg1 harg1 x0, runFirst.sl.r_268 c arg1 harg1 x0, runFirst.sl.r_269 c arg1 harg1 x0, runFirst.sl.r_270 c arg1 harg1 x0, runFirst.sl.r_271 c arg1 harg1 x0, runFirst.sl.r_272 c arg1 harg1 x0, runFirst.sl.r_274 c arg1 harg1 x0, runFirst.sl.r_275 c arg1 harg1 x0, runFirst.sl.r_276 c arg1 harg1 x0, runFirst.sl.r_277 c arg1 harg1 x0, runFirst.sl.r_278 c arg1 harg1 x0, runFirst.sl.r_279 c arg1 harg1 x0, runFirst.sl.r_281 c arg1 harg1 x0, runFirst.sl.r_282 c arg1 harg1 x0, runFirst.sl.r_283 c arg1 harg1 x0, runFirst.sl.r_284 c arg1 harg1 x0, runFirst.sl.r_285 c arg1 harg1 x0, runFirst.sl.r_287 c arg1 harg1 x0, runFirst.sl.r_288 c arg1 harg1 x0, runFirst.sl.r_289 c arg1 harg1 x0, runFirst.sl.r_290 c arg1 harg1 x0] : Fin 40 → FVec F S24x128 .f32)) = codeV x0 := by
      unfold codeV
      rw [← hs, ← hz]
      funext h
      fin_cases h <;> rfl
    have hsum : runFirst.sl.HS1_1 c arg1 harg1 x0 = [⟨Rect.unit ![0, 0] S24x1.size inb_S24x1_S24x1_0_0, sumV x0⟩] := by
      unfold sumV
      rw [← hcode]
      rfl
    have hscale : runFirst.sl.H5_1 c arg1 harg1 x0 = [⟨Rect.unit ![0, 0] S24x1.size inb_S24x1_S24x1_0_0, scaleV x0⟩] := by
      rw [← hs]
      rfl
    have hlhs : runFirst.sl.HS0_40 c arg1 harg1 x0 = headPieces (F := F) (e := .bf16)
        (fun h => shapeCast S24x128 (truncf .bf16 (codeV x0 h) bitsLt_bf16_f32 : FVec F S24x128 .bf16) shapeCasts_S24x128_S24x128) 40 (le_refl _) := by
      rw [← hcode]
      rfl
    have hL : View.canon (runFirst.sl.HS0_40 c arg1 harg1 x0) = lhsV x0 := by
      rw [hlhs, canon_headPieces]
      rfl
    have hcov : ∀ y, ∃ p ∈ runFirst.sl.HS0_40 c arg1 harg1 x0, y ∈ p.1.set := by
      rw [hlhs]
      exact fun y => headPieces_cover _ y 40 _ (by have : (y 1).val < 5120 := (y 1).isLt; omega)
    have hS1 : ∀ (e : EltTy) (w : Vec F S24x1 e) (y : S24x1.Idx),
        ∃ p ∈ ([⟨Rect.unit ![0, 0] S24x1.size inb_S24x1_S24x1_0_0, w⟩] : List (View.Piece (Elt F) S24x1 e)), y ∈ p.1.set :=
      fun e w y => View.cover_of_tiled_head _ _ _ rfl y
    have hout : k0_pay1 (runFirst.sl.r_300 c arg1 harg1 arg2 harg2 arg3 harg3 arg6 arg7 arg8 x0 x1 x2)
        = outV (lhsV x0) (sumV x0) (scaleV x0) x1 x2 := by
      have e1 : View.readAt (Elt F) arg2.view (Rect.unit ![0, 0] S512x2560.size inb_S512x2560_S512x2560_0_0).toLoadRect (harg2.unread x1) = x1 := by
        rw [View.readAt_eq_ld, harg2.read_unread, View.ld_unit_zero (by decide)]
      have e2 : View.readAt (Elt F) arg3.view (Rect.unit ![0, 0] S1x512.size inb_S1x512_S1x512_0_0).toLoadRect (harg3.unread x2) = x2 := by
        rw [View.readAt_eq_ld, harg3.read_unread, View.ld_unit_zero (by decide)]
      have e3 : runFirst.sl.v16 c arg1 harg1 arg7 x0 = View.ld (Val := Elt F) (e' := .bf16) (lhsV x0) (Rect.unit ![0, 0] S24x2560.size inb_S24x5120_S24x2560_0_0) := by
        unfold runFirst.sl.v16
        rw [View.readCov_eq_canon', hL]
      have e4 : runFirst.sl.v18 c arg1 harg1 arg7 x0 = View.ld (Val := Elt F) (e' := .bf16) (lhsV x0) (Rect.unit ![0, 2560] S24x2560.size inb_S24x5120_S24x2560_0_2560) := by
        unfold runFirst.sl.v18
        rw [View.readCov_eq_canon', hL]
      have e5 : runFirst.sl.v23 c arg1 harg1 arg8 x0 = sumV x0 := by
        unfold runFirst.sl.v23
        rw [View.readCov_eq_canon_ld _ _ _ (by rw [hsum]; exact hS1 .f32 _), hsum, View.canon_cons_unit_zero (by decide), View.ld_unit_zero (by decide)]
      have e6 : runFirst.sl.v28 c arg1 harg1 arg6 x0 = scaleV x0 := by
        unfold runFirst.sl.v28
        rw [View.readCov_eq_canon_ld _ _ _ (by rw [hscale]; exact hS1 .f32 _), hscale, View.canon_cons_unit_zero (by decide), View.ld_unit_zero (by decide)]
      unfold runFirst.sl.r_300
      rw [e1, e2, e3, e4, e5, e6]
      rfl
    have hcodes : ([⟨Rect.unit ![0, 4992] S24x128.size inb_S24x5120_S24x128_0_4992, k0_pay434 (runFirst.sl.r_290 c arg1 harg1 x0)⟩,
        ⟨Rect.unit ![0, 4864] S24x128.size inb_S24x5120_S24x128_0_4864, k0_pay432 (runFirst.sl.r_289 c arg1 harg1 x0)⟩,
        ⟨Rect.unit ![0, 4736] S24x128.size inb_S24x5120_S24x128_0_4736, k0_pay430 (runFirst.sl.r_288 c arg1 harg1 x0)⟩,
        ⟨Rect.unit ![0, 4608] S24x128.size inb_S24x5120_S24x128_0_4608, k0_pay428 (runFirst.sl.r_287 c arg1 harg1 x0)⟩,
        ⟨Rect.unit ![0, 4480] S24x128.size inb_S24x5120_S24x128_0_4480, k0_pay426 (runFirst.sl.r_285 c arg1 harg1 x0)⟩,
        ⟨Rect.unit ![0, 4352] S24x128.size inb_S24x5120_S24x128_0_4352, k0_pay424 (runFirst.sl.r_284 c arg1 harg1 x0)⟩,
        ⟨Rect.unit ![0, 4224] S24x128.size inb_S24x5120_S24x128_0_4224, k0_pay422 (runFirst.sl.r_283 c arg1 harg1 x0)⟩,
        ⟨Rect.unit ![0, 4096] S24x128.size inb_S24x5120_S24x128_0_4096, k0_pay420 (runFirst.sl.r_282 c arg1 harg1 x0)⟩,
        ⟨Rect.unit ![0, 3968] S24x128.size inb_S24x5120_S24x128_0_3968, k0_pay418 (runFirst.sl.r_281 c arg1 harg1 x0)⟩,
        ⟨Rect.unit ![0, 3840] S24x128.size inb_S24x5120_S24x128_0_3840, k0_pay416 (runFirst.sl.r_279 c arg1 harg1 x0)⟩,
        ⟨Rect.unit ![0, 3712] S24x128.size inb_S24x5120_S24x128_0_3712, k0_pay414 (runFirst.sl.r_278 c arg1 harg1 x0)⟩,
        ⟨Rect.unit ![0, 3584] S24x128.size inb_S24x5120_S24x128_0_3584, k0_pay412 (runFirst.sl.r_277 c arg1 harg1 x0)⟩,
        ⟨Rect.unit ![0, 3456] S24x128.size inb_S24x5120_S24x128_0_3456, k0_pay410 (runFirst.sl.r_276 c arg1 harg1 x0)⟩,
        ⟨Rect.unit ![0, 3328] S24x128.size inb_S24x5120_S24x128_0_3328, k0_pay408 (runFirst.sl.r_275 c arg1 harg1 x0)⟩,
        ⟨Rect.unit ![0, 3200] S24x128.size inb_S24x5120_S24x128_0_3200, k0_pay406 (runFirst.sl.r_274 c arg1 harg1 x0)⟩,
        ⟨Rect.unit ![0, 3072] S24x128.size inb_S24x5120_S24x128_0_3072, k0_pay404 (runFirst.sl.r_272 c arg1 harg1 x0)⟩,
        ⟨Rect.unit ![0, 2944] S24x128.size inb_S24x5120_S24x128_0_2944, k0_pay402 (runFirst.sl.r_271 c arg1 harg1 x0)⟩,
        ⟨Rect.unit ![0, 2816] S24x128.size inb_S24x5120_S24x128_0_2816, k0_pay400 (runFirst.sl.r_270 c arg1 harg1 x0)⟩,
        ⟨Rect.unit ![0, 2688] S24x128.size inb_S24x5120_S24x128_0_2688, k0_pay398 (runFirst.sl.r_269 c arg1 harg1 x0)⟩,
        ⟨Rect.unit ![0, 2560] S24x128.size inb_S24x5120_S24x128_0_2560, k0_pay396 (runFirst.sl.r_268 c arg1 harg1 x0)⟩,
        ⟨Rect.unit ![0, 2432] S24x128.size inb_S24x5120_S24x128_0_2432, k0_pay394 (runFirst.sl.r_266 c arg1 harg1 x0)⟩,
        ⟨Rect.unit ![0, 2304] S24x128.size inb_S24x5120_S24x128_0_2304, k0_pay392 (runFirst.sl.r_265 c arg1 harg1 x0)⟩,
        ⟨Rect.unit ![0, 2176] S24x128.size inb_S24x5120_S24x128_0_2176, k0_pay390 (runFirst.sl.r_264 c arg1 harg1 x0)⟩,
        ⟨Rect.unit ![0, 2048] S24x128.size inb_S24x5120_S24x128_0_2048, k0_pay388 (runFirst.sl.r_263 c arg1 harg1 x0)⟩,
        ⟨Rect.unit ![0, 1920] S24x128.size inb_S24x5120_S24x128_0_1920, k0_pay386 (runFirst.sl.r_262 c arg1 harg1 x0)⟩,
        ⟨Rect.unit ![0, 1792] S24x128.size inb_S24x5120_S24x128_0_1792, k0_pay384 (runFirst.sl.r_261 c arg1 harg1 x0)⟩,
        ⟨Rect.unit ![0, 1664] S24x128.size inb_S24x5120_S24x128_0_1664, k0_pay382 (runFirst.sl.r_260 c arg1 harg1 x0)⟩,
        ⟨Rect.unit ![0, 1536] S24x128.size inb_S24x5120_S24x128_0_1536, k0_pay380 (runFirst.sl.r_259 c arg1 harg1 x0)⟩,
        ⟨Rect.unit ![0, 1408] S24x128.size inb_S24x5120_S24x128_0_1408, k0_pay378 (runFirst.sl.r_258 c arg1 harg1 x0)⟩,
        ⟨Rect.unit ![0, 1280] S24x128.size inb_S24x5120_S24x128_0_1280, k0_pay376 (runFirst.sl.r_257 c arg1 harg1 x0)⟩,
        ⟨Rect.unit ![0, 1152] S24x128.size inb_S24x5120_S24x128_0_1152, k0_pay374 (runFirst.sl.r_256 c arg1 harg1 x0)⟩,
        ⟨Rect.unit ![0, 1024] S24x128.size inb_S24x5120_S24x128_0_1024, k0_pay372 (runFirst.sl.r_254 c arg1 harg1 x0)⟩,
        ⟨Rect.unit ![0, 896] S24x128.size inb_S24x5120_S24x128_0_896, k0_pay370 (runFirst.sl.r_253 c arg1 harg1 x0)⟩,
        ⟨Rect.unit ![0, 768] S24x128.size inb_S24x5120_S24x128_0_768, k0_pay368 (runFirst.sl.r_252 c arg1 harg1 x0)⟩,
        ⟨Rect.unit ![0, 640] S24x128.size inb_S24x5120_S24x128_0_640, k0_pay366 (runFirst.sl.r_251 c arg1 harg1 x0)⟩,
        ⟨Rect.unit ![0, 512] S24x128.size inb_S24x5120_S24x128_0_512, k0_pay364 (runFirst.sl.r_250 c arg1 harg1 x0)⟩,
        ⟨Rect.unit ![0, 384] S24x128.size inb_S24x5120_S24x128_0_384, k0_pay362 (runFirst.sl.r_248 c arg1 harg1 x0)⟩,
        ⟨Rect.unit ![0, 256] S24x128.size inb_S24x5120_S24x128_0_256, k0_pay360 (runFirst.sl.r_247 c arg1 harg1 x0)⟩,
        ⟨Rect.unit ![0, 128] S24x128.size inb_S24x5120_S24x128_0_128, k0_pay358 (runFirst.sl.r_246 c arg1 harg1 x0)⟩,
        ⟨Rect.unit ![0, 0] S24x128.size inb_S24x5120_S24x128_0_0, k0_pay356 (runFirst.sl.r_245 c arg1 harg1 x0)⟩] : List (View.Piece (Elt F) S24x5120 .i8))
        = headPieces (F := F) (e := .i8) (fun h => (fptosi 8 (codeV x0 h) : IVec S24x128 8)) 40 (le_refl _) := by
      rw [← hcode]
      rfl
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_eq_canon _ _ _ (View.cover_of_tiled_head _ _ _ rfl), View.canon_cons_unit_zero (S := S24x512) (by decide), hout]
    isplitl [H4]
    · iexists _; isplitr; swap; · iexact H4
      ipureintro
      rw [hcodes, View.read_writes_eq_canon _ _ _ fun y => headPieces_cover _ y 40 _ (by have : (y 1).val < 5120 := (y 1).isLt; omega), canon_headPieces]
      rfl
    isplitl [H5]
    · iexists _; isplitr; swap; · iexact H5
      ipureintro
      rw [hscale, View.read_writes_eq_canon _ _ _ (hS1 .f32 _), View.canon_cons_unit_zero (by decide)]
    isplitl [HS0]
    · iexists _; isplitr; swap; · iexact HS0
      ipureintro
      rw [View.read_writes_eq_canon _ _ _ hcov, hL]
    iexists _; isplitr; swap; · iexact HS1
    ipureintro
    rw [hsum, View.read_writes_eq_canon _ _ _ (hS1 .f32 _), View.canon_cons_unit_zero (by decide)]

end Cert.KernelIdeal.Hand

end
-- ==== Proof.RunRest.lean ====
/- The kernel's body at every later grid point: the block of the result from what the first point left. -/
module

public import proofs.«01_k».proof.Proof.Named

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a grid point other than the first, where its branch is not taken: from the left operand `L`, the sums
    `S` and the scales `s` that it finds, a block `x1` of packed weights and their scales `x2`, it leaves the block of
    the result at its named value and every other buffer as it was. -/
theorem runRest (c : Dev nD) (i : grid0.Coords) (arg1 : Memref sig .tc .vmem S24x5120 .bf16) (harg1 : arg1.IsWhole) (arg2 : Memref sig .tc .vmem S512x2560 .i8) (harg2 : arg2.IsWhole) (arg3 : Memref sig .tc .vmem S1x512 .f32) (harg3 : arg3.IsWhole) (arg4 : Memref sig .tc .vmem S24x512 .bf16) (harg4 : arg4.IsWhole) (arg5 : Memref sig .tc .vmem S24x5120 .i8) (harg5 : arg5.IsWhole) (arg6 : Memref sig .tc .vmem S24x1 .f32) (harg6 : arg6.IsWhole) (arg7 : Memref sig .tc .vmem S24x5120 .bf16) (harg7 : arg7.IsWhole) (arg8 : Memref sig .tc .vmem S24x1 .f32) (harg8 : arg8.IsWhole) (hc0 : ¬cond0 i)
    (x0 : Vec F S24x5120 .bf16) (L : Vec F S24x5120 .bf16) (S : Vec F S24x1 .f32) (s : Vec F S24x1 .f32) (C : Vec F S24x5120 .i8) (x1 : Vec F S512x2560 .i8) (x2 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare C ∗ owns (c : Thread nD τ) arg6 fullShare s ∗ owns (c : Thread nD τ) arg7 fullShare L ∗ owns (c : Thread nD τ) arg8 fullShare S
            ∗ (iprop(owns (c : Thread nD τ) arg1 fullShare x0 ∗ owns (c : Thread nD τ) arg2 fullShare x1 ∗ owns (c : Thread nD τ) arg3 fullShare x2 ∗ owns (c : Thread nD τ) arg4 fullShare (outV L S s x1 x2) ∗ owns (c : Thread nD τ) arg5 fullShare C ∗ owns (c : Thread nD τ) arg6 fullShare s ∗ owns (c : Thread nD τ) arg7 fullShare L ∗ owns (c : Thread nD τ) arg8 fullShare S) -∗ K ⟨⟩))
          ⊢ wp frame (wpE (defs₀ (F := F)) Variants.none c none) E (cc0_quarot_oproj i arg1 harg1 arg2 harg2 arg3 harg3 arg4 harg4 arg5 harg5 arg6 harg6 arg7 harg7 arg8 harg8) K := by
    intro E K
    simp only [cc0_quarot_oproj_eq_skeleton]; unfold cc0_quarot_oproj_skel
    simp only [k0_part27_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5; obtain rfl := harg7.eq_unread hfs0
    obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_eq_canon _ _ _ (View.cover_of_tiled_head _ _ _ rfl), View.canon_cons_unit_zero (S := S24x512) (by decide)]
      have e1 : View.readAt (Elt F) arg2.view (Rect.unit ![0, 0] S512x2560.size inb_S512x2560_S512x2560_0_0).toLoadRect (harg2.unread x1) = x1 := by
        rw [View.readAt_eq_ld, harg2.read_unread, View.ld_unit_zero (by decide)]
      have e2 : View.readAt (Elt F) arg3.view (Rect.unit ![0, 0] S1x512.size inb_S1x512_S1x512_0_0).toLoadRect (harg3.unread x2) = x2 := by
        rw [View.readAt_eq_ld, harg3.read_unread, View.ld_unit_zero (by decide)]
      have e5 : View.readAt (Elt F) arg8.view (Rect.unit ![0, 0] S24x1.size inb_S24x1_S24x1_0_0).toLoadRect (harg8.unread S) = S := by
        rw [View.readAt_eq_ld, harg8.read_unread, View.ld_unit_zero (by decide)]
      have e6 : View.readAt (Elt F) arg6.view (Rect.unit ![0, 0] S24x1.size inb_S24x1_S24x1_0_0).toLoadRect (harg6.unread s) = s := by
        rw [View.readAt_eq_ld, harg6.read_unread, View.ld_unit_zero (by decide)]
      unfold outV
      sl_unfold_words
      rw [e1, e2, e5, e6, View.readAt_eq_ld, View.readAt_eq_ld, harg7.read_unread]
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; isplitr; · ipureintro; exact harg8.read_unread _
    iexact HS1

end Cert.KernelIdeal.Hand

end
-- ==== Proof.Body.lean ====
/- The kernel's launch with every buffer's contents named: what each window's buffer and each scratch buffer holds
   around every grid point, the body's obligation from its two runs, and the run of the whole program. -/
module

public import proofs.«01_k».proof.Proof.RunFirst
public import proofs.«01_k».proof.Proof.RunRest
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input as the kernel's launch finds it. -/
def xIn (c : Dev nD) : Vec F S24x5120 .bf16 := iblk m c 0 ⟨0, by rw [show cfg0.N = 10 from N_0]; decide⟩

/-- The input's window is the whole input at every point. -/
theorem iblk_0 (c : Dev nD) (t : Fin cfg0.N) : iblk m c 0 t = xIn m c := rfl

/-- The block of the result at point `t`. -/
def outAt (c : Dev nD) (t : Fin cfg0.N) : Vec F S24x512 .bf16 :=
  outV (lhsV (xIn m c)) (sumV (xIn m c)) (scaleV (xIn m c)) (iblk m c 1 t) (iblk m c 2 t)

/-- The invariant between points: before the first, the scratch buffers at anything; after it, the left operand and
    the codes' sums. -/
def phi (c : Dev nD) (n : ℕ) : sProp 𝕄 :=
  if n = 0 then Pipeline.ΦA spec0 c
  else iprop(iprop(owns (c : Thread nD τ) scM0_0 fullShare (lhsV (xIn m c)) ∗ owns (c : Thread nD τ) scM0_1 fullShare (sumV (xIn m c))) ∗ (∃ r, prngReg c r))

/-- The launch's data: the inputs' buffers keep their blocks, the result's holds its block, the codes' and the scales'
    hold what the first point leaves. -/
def dats : (p : Fin 1) → (c : Dev nD) → Dat τ (Elt F) Unit ℕ (UR sig nD τ) ℕ (cfgs p) c := fun _ c => {
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => outAt m c t
    | ⟨4, _⟩ => codesV (xIn m c)
    | ⟨5, _⟩ => scaleV (xIn m c)
  Φ := fun t => phi m c t.val
  q := fun _ => fullShare
  owed := fun _ => 0 }

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem after0_4 (c : Dev nD) (t : Fin cfg0.N) : (dats m 0 c).after 4 t = codesV (xIn m c) := by dsimp only [dats]
theorem after0_5 (c : Dev nD) (t : Fin cfg0.N) : (dats m 0 c).after 5 t = scaleV (xIn m c) := by dsimp only [dats]

/-- What the body finds in the inputs' buffers. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The codes' and the scales' windows are idle at every point but the first. -/
theorem idle0_4 (t : Fin cfg0.N) : cfg0.idle 4 (grid0.coords t) = !decide (cond0 (grid0.coords t)) := by
  show (!(k0_cond1 (grid0.coords t) == 1#1)) = _
  rfl
theorem idle0_5 (t : Fin cfg0.N) : cfg0.idle 5 (grid0.coords t) = !decide (cond0 (grid0.coords t)) := by
  show (!(k0_cond1 (grid0.coords t) == 1#1)) = _
  rfl

/-- After the first point the body finds the codes in their buffer … -/
theorem before0_4 (c : Dev nD) (d) : ∀ (n : ℕ) (h : n + 1 < cfg0.N), (dats m 0 c).before 4 ⟨n + 1, h⟩ d = codesV (xIn m c)
  | n, h => by
    have hN : n + 1 < 10 := lt_of_lt_of_eq h N_0
    rw [(dats m 0 c).before_of_pos 4 ⟨n + 1, h⟩ (Nat.succ_ne_zero n) rfl,
      if_neg (fun hf => by have := (flush0_4 _).mp hf; simp only [Nat.add_sub_cancel] at this; omega)]
    unfold Dat.left
    cases n with
    | zero =>
      rw [show cfg0.idle 4 (grid0.coords ⟨0 + 1 - 1, lt_of_le_of_lt (Nat.sub_le _ _) h⟩) = false from by
        rw [idle0_4, decide_eq_true ((hcond0 _).mpr rfl)]; rfl]
      rfl
    | succ n =>
      rw [show cfg0.idle 4 (grid0.coords ⟨n + 1 + 1 - 1, lt_of_le_of_lt (Nat.sub_le _ _) h⟩) = true from by
        rw [idle0_4, decide_eq_false (fun hc => by have := (hcond0 _).mp hc; simp only [Nat.add_sub_cancel] at this; omega)]; rfl]
      exact before0_4 c d n _
/-- … and the scales in theirs. -/
theorem before0_5 (c : Dev nD) (d) : ∀ (n : ℕ) (h : n + 1 < cfg0.N), (dats m 0 c).before 5 ⟨n + 1, h⟩ d = scaleV (xIn m c)
  | n, h => by
    have hN : n + 1 < 10 := lt_of_lt_of_eq h N_0
    rw [(dats m 0 c).before_of_pos 5 ⟨n + 1, h⟩ (Nat.succ_ne_zero n) rfl,
      if_neg (fun hf => by have := (flush0_5 _).mp hf; simp only [Nat.add_sub_cancel] at this; omega)]
    unfold Dat.left
    cases n with
    | zero =>
      rw [show cfg0.idle 5 (grid0.coords ⟨0 + 1 - 1, lt_of_le_of_lt (Nat.sub_le _ _) h⟩) = false from by
        rw [idle0_5, decide_eq_true ((hcond0 _).mpr rfl)]; rfl]
      rfl
    | succ n =>
      rw [show cfg0.idle 5 (grid0.coords ⟨n + 1 + 1 - 1, lt_of_le_of_lt (Nat.sub_le _ _) h⟩) = true from by
        rw [idle0_5, decide_eq_false (fun hc => by have := (hcond0 _).mp hc; simp only [Nat.add_sub_cancel] at this; omega)]; rfl]
      exact before0_5 c d n _

/-- At every point the codes in their buffer are what the launch may be handed back … -/
theorem leaves0_4 (c : Dev nD) (t : Fin cfg0.N) :
    owns (c : Thread nD τ) (ms0_4 t) fullShare (codesV (xIn m c)) ⊢ (dats m 0 c).leavesExact 4 t := by
  unfold Dat.leavesExact
  rw [after0_4]
  by_cases hi : cfg0.idle 4 (grid0.coords t) = true
  · rw [hi]
    have h0 : t.val ≠ 0 := fun h => by
      rw [idle0_4, decide_eq_true ((hcond0 _).mpr (by rw [h]))] at hi
      exact absurd hi (by decide)
    cases hf : (cfg0.win 4).flush t
    · obtain ⟨n, hn⟩ := t
      obtain ⟨n, rfl⟩ := Nat.exists_eq_succ_of_ne_zero h0
      simp only
      iintro H
      iexists codesV (xIn m c)
      rw [before0_4]
      iexact H
    · exact .rfl
  · rw [Bool.eq_false_iff.mpr hi]
/-- … and so are the scales in theirs. -/
theorem leaves0_5 (c : Dev nD) (t : Fin cfg0.N) :
    owns (c : Thread nD τ) (ms0_5 t) fullShare (scaleV (xIn m c)) ⊢ (dats m 0 c).leavesExact 5 t := by
  unfold Dat.leavesExact
  rw [after0_5]
  by_cases hi : cfg0.idle 5 (grid0.coords t) = true
  · rw [hi]
    have h0 : t.val ≠ 0 := fun h => by
      rw [idle0_5, decide_eq_true ((hcond0 _).mpr (by rw [h]))] at hi
      exact absurd hi (by decide)
    cases hf : (cfg0.win 5).flush t
    · obtain ⟨n, hn⟩ := t
      obtain ⟨n, rfl⟩ := Nat.exists_eq_succ_of_ne_zero h0
      simp only
      iintro H
      iexists scaleV (xIn m c)
      rw [before0_5]
      iexact H
    · exact .rfl
  · rw [Bool.eq_false_iff.mpr hi]

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- … and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the first point's run at the first, the other run at every later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, iblk_0 m c t]
  rw [show (dats m 0 c).owesAt () t.succ = (dats m 0 c).owesAt () t.castSucc from rfl]
  rw [show (dats m 0 c).Φ t.castSucc = phi m c t.val from rfl, show (dats m 0 c).Φ t.succ = phi m c (t.val + 1) from rfl]
  have hN : t.val < 10 := lt_of_lt_of_eq t.isLt (show cfg0.N = 10 from N_0)
  rw [show (dats m 0 c).leavesExact 0 t = owns (c : Thread nD τ) (ms0_0 t) fullShare ((dats m 0 c).after 0 t) from by
    unfold Dat.leavesExact; rw [liveAt0_0 t], after0_0, iblk_0 m c t]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show phi m c (t.val + 1) = iprop(iprop(owns (c : Thread nD τ) scM0_0 fullShare (lhsV (xIn m c)) ∗ owns (c : Thread nD τ) scM0_1 fullShare (sumV (xIn m c))) ∗ (∃ r, prngReg c r)) from if_neg (Nat.succ_ne_zero _)]
  by_cases h0 : t.val % 10 = 0
  · have ht : t.val = 0 := by omega
    rw [show phi m c t.val = Pipeline.ΦA spec0 c from if_pos ht, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ _ _ ((hcond0 t).mpr h0) (xIn m c) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iapply (leaves0_4 m c t); iexact H4
    iapply (leaves0_5 m c t); iexact H5
  · have ht : t.val ≠ 0 := by omega
    rw [show phi m c t.val = iprop(iprop(owns (c : Thread nD τ) scM0_0 fullShare (lhsV (xIn m c)) ∗ owns (c : Thread nD τ) scM0_1 fullShare (sumV (xIn m c))) ∗ (∃ r, prngReg c r)) from if_neg ht]
    have e4 : ∀ d, (dats m 0 c).before 4 t d = codesV (xIn m c) := fun d => by
      obtain ⟨n, hn⟩ := t
      obtain ⟨n, rfl⟩ := Nat.exists_eq_succ_of_ne_zero ht
      exact before0_4 m c d n hn
    have e5 : ∀ d, (dats m 0 c).before 5 t d = scaleV (xIn m c) := fun d => by
      obtain ⟨n, hn⟩ := t
      obtain ⟨n, rfl⟩ := Nat.exists_eq_succ_of_ne_zero ht
      exact before0_5 m c d n hn
    simp only [e4, e5]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runRest c (grid0.coords t) _ _ _ _ _ _ _ _ _ _ _ _ _ _ _ _ (fun h => h0 ((hcond0 t).mp h)) (xIn m c) (lhsV (xIn m c)) (sumV (xIn m c)) (scaleV (xIn m c)) (codesV (xIn m c)) (iblk m c 1 t) (iblk m c 2 t)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iapply (leaves0_4 m c t); iexact H4
    iapply (leaves0_5 m c t); iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The launch's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the whole program, from any memory with zero counters: every result array of the launch at what its
    write-backs leave, every buffer after the launch at what the remaining host operations compute, and every
    counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => show Pipeline.ΦA spec0 c ⊢ phi m c 0 from by rw [show phi m c 0 = Pipeline.ΦA spec0 c from if_pos rfl])
    (hout := fun c => show phi m c cfg0.N ⊢ Pipeline.ΦA spec0 c from by
      rw [show phi m c cfg0.N = _ from if_neg (by rw [show cfg0.N = 10 from N_0]; decide), PhiA0_eq]
      iintro ⟨⟨HS0, HS1⟩, Hg⟩
      isplitl [HS0 HS1]
      · isplitl [HS0]
        · iexists _; iexact HS0
        iexists _; iexact HS1
      iexact Hg)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Arrays.lean ====
/- The program's results as functions of its arguments: the arrays the launch leaves, the blocks it read, and the
   reshapes before and after it. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point that computes column `o` of the result. -/
def pointOf (i : S24x5120.Idx) : Fin cfg0.N :=
  ⟨(i 1 : ℕ) / 512, by rw [show cfg0.N = 10 from N_0]; exact Nat.div_lt_of_lt_mul (i 1).isLt⟩

/-- Where column `o` lies in the block of its grid point. -/
def inBlock (i : S24x5120.Idx) : S24x512.Idx := ix2 (i 0) ⟨(i 1 : ℕ) % 512, Nat.mod_lt _ (by decide)⟩

/-- The result before the last reshape: each column from the grid point that computes it. -/
def outFlat (c : Dev nD) : Vec F S24x5120 .bf16 := fun i => outAt m c (pointOf i) (inBlock i)

/-- The windows' indices: the point's number along one axis, or nothing. -/
theorem index_0 (t : Fin cfg0.N) : win0_0.index t = ![0, 0] := by
  revert t; decide +kernel
theorem index_3 (t : Fin cfg0.N) : win0_3.index t = ![0, t.val] := by
  revert t; decide +kernel
theorem index_1 (t : Fin cfg0.N) : win0_1.index t = ![t.val, 0] := by
  revert t; decide +kernel
theorem index_2 (t : Fin cfg0.N) : win0_2.index t = ![0, t.val] := by
  revert t; decide +kernel

/-- The launch's first result, … -/
theorem arr_3 (c : Dev nD) : (dats m 0 c).arrAt 3 cfg0.N = outFlat m c := by
  refine (dats m 0 c).arrAt_eq_of_covers 3 _ (by decide +kernel) fun t hf y => ?_
  blk_simp
  rw [after0_3]
  unfold outFlat
  have h0 : (y 0 : ℕ) < 24 := (y 0).isLt
  have h1 : (y 1 : ℕ) < 512 := (y 1).isLt
  have e1 : ((((cfg0.win 3).blk t).view.emb y 1 : Fin _) : ℕ) = t.val * 512 + (y 1 : ℕ) := by
    blk_simp [index_3]
  have e0 : ((((cfg0.win 3).blk t).view.emb y 0 : Fin _) : ℕ) = (y 0 : ℕ) := by
    blk_simp [index_3]
  have ht : pointOf (((cfg0.win 3).blk t).view.emb y) = t := by
    apply Fin.ext
    show ((((cfg0.win 3).blk t).view.emb y 1 : Fin _) : ℕ) / 512 = t.val
    rw [e1]; omega
  rw [ht]
  congr 1
  funext a
  apply Fin.ext
  fin_cases a
  · exact e0.symm
  · show (y 1 : ℕ) = ((((cfg0.win 3).blk t).view.emb y 1 : Fin _) : ℕ) % 512
    rw [e1]; omega

/-- … its second, … -/
theorem arr_4 (c : Dev nD) : (dats m 0 c).arrAt 4 cfg0.N = codesV (xIn m c) := by
  refine (dats m 0 c).arrAt_eq_of_after_last 4 ⟨9, by rw [show cfg0.N = 10 from N_0]; decide⟩ (by decide +kernel) _ fun j => ?_
  rw [after0_4]
  rfl

/-- … and its third. -/
theorem arr_5 (c : Dev nD) : (dats m 0 c).arrAt 5 cfg0.N = scaleV (xIn m c) := by
  refine (dats m 0 c).arrAt_eq_of_after_last 5 ⟨9, by rw [show cfg0.N = 10 from N_0]; decide⟩ (by decide +kernel) _ fun j => ?_
  rw [after0_5]
  rfl

/-- The launch's input is the argument with its middle axis of size one dropped. -/
theorem V_main_v0 (c : Dev nD) : V m c main_v0 = shapeCast S24x5120 (m ((c : Thread nD τ).loc main_arg0)) shapeCasts_S24x1x5120_S24x5120 := by
  unfold V V0
  simp only [hostOps0, List.flatten_cons, List.flatten_nil, List.append_nil]
  after_results_simp
  rfl

/-- The weight scales as the launch finds them: one row of the argument's. -/
theorem V_main_v1 (c : Dev nD) : V m c main_v1 = shapeCast S1x5120 (m ((c : Thread nD τ).loc main_arg2)) shapeCasts_S5120_S1x5120 := by
  unfold V V0
  simp only [hostOps0, List.flatten_cons, List.flatten_nil, List.append_nil]
  after_results_simp
  rfl

/-- The input as the launch finds it, of the argument. -/
theorem xIn_eq (c : Dev nD) : xIn m c = shapeCast S24x5120 (m ((c : Thread nD τ).loc main_arg0)) shapeCasts_S24x1x5120_S24x5120 := by
  rw [← V_main_v0]
  funext y
  unfold xIn iblk
  generalize (⟨0, _⟩ : Fin cfg0.N) = t
  blk_simp
  congr 1
  funext a
  apply Fin.ext
  fin_cases a <;> blk_simp [index_0] <;> rfl

/-- The weights' block at point `t`: 512 rows of the argument. -/
theorem iblk_1 (c : Dev nD) (t : Fin cfg0.N) (y : S512x2560.Idx) (h : t.val * 512 + (y 0 : ℕ) < 5120) :
    iblk m c 1 t y = m ((c : Thread nD τ).loc main_arg1) (ix2 ⟨t.val * 512 + (y 0 : ℕ), h⟩ (y 1)) := by
  rw [← V_main_arg1 m c]
  unfold iblk
  blk_simp
  congr 1
  funext a
  apply Fin.ext
  fin_cases a <;> blk_simp [index_1] <;> rfl

/-- The weight scales' block at point `t`: 512 of the argument's. -/
theorem iblk_2 (c : Dev nD) (t : Fin cfg0.N) (y : S1x512.Idx) (h : t.val * 512 + (y 1 : ℕ) < 5120) :
    iblk m c 2 t y = V m c main_v1 (ix2 (y 0) ⟨t.val * 512 + (y 1 : ℕ), h⟩) := by
  unfold iblk
  blk_simp
  congr 1
  funext a
  apply Fin.ext
  fin_cases a <;> blk_simp [index_2] <;> rfl

/-- The lines after the launch leave the reshaped result … -/
theorem W_main_v3 (c : Dev nD) : Pipeline.afterTail₀ cfgs (dats m) 0 (V0 m) [hostOps1] c main_v3
    = shapeCast S24x1x5120 (outFlat m c) shapeCasts_S24x5120_S24x1x5120 := by
  rw [← arr_3]
  unfold Pipeline.afterTail₀
  simp only [hostOps1, List.flatten_cons, List.flatten_nil, List.append_nil]
  after_results_simp
  rw [← Pipeline.withArrays_arr spec0 launch0.win.arr_inj c (V0 m c) (fun w => (dats m 0 c).arrAt w cfg0.N) 3]
  rfl

/-- … and the reshaped codes. -/
theorem W_main_v4 (c : Dev nD) : Pipeline.afterTail₀ cfgs (dats m) 0 (V0 m) [hostOps1] c main_v4
    = shapeCast S24x1x5120 (codesV (xIn m c)) shapeCasts_S24x5120_S24x1x5120 := by
  rw [← arr_4]
  unfold Pipeline.afterTail₀
  simp only [hostOps1, List.flatten_cons, List.flatten_nil, List.append_nil]
  after_results_simp
  rw [← Pipeline.withArrays_arr spec0 launch0.win.arr_inj c (V0 m c) (fun w => (dats m 0 c).arrAt w cfg0.N) 4]
  rfl

/-- The run of the whole program: its three results as functions of the launch's inputs, its arguments unchanged. -/
theorem run_values : θ_run defs (onTc (τ := τ) (main (F := F))) ⟨m, fun _ => 0, ρ⟩ (fun r => ∀ c : Dev nD,
      r.2.mem ((c.tc : Thread nD τ).loc main_v3) = shapeCast S24x1x5120 (outFlat m c) shapeCasts_S24x5120_S24x1x5120
      ∧ r.2.mem ((c.tc : Thread nD τ).loc main_v4) = shapeCast S24x1x5120 (codesV (xIn m c)) shapeCasts_S24x5120_S24x1x5120
      ∧ r.2.mem ((c.tc : Thread nD τ).loc main_v2_2) = scaleV (xIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).2 main_v3 (Pipeline.mem_restRefs_of main_v3 (by decide) (by decide))).trans (W_main_v3 m c),
     ((h.1 c).2 main_v4 (Pipeline.mem_restRefs_of main_v4 (by decide) (by decide))).trans (W_main_v4 m c),
     ((h.1 c).1 5).trans (arr_5 m c),
     h.2.1 c⟩)
    (θ_run_and ((θ_run defs _ _).mono (fun _ h => h.1) (run_main m ρ)) (frame m ρ))

end Cert.KernelIdeal.Hand

end
-- ==== Proof.Forms.lean ====
/- Signed sums of forty extended reals, however they are grouped: infinite as soon as one term is, and otherwise the
   real signed sum. The kernel's Paley transforms and the reference's row of the Hadamard matrix are both such sums,
   with the same signs. -/
module

public import proofs.«01_k».proof.Proof.Named
public import Mathlib.Data.EReal.Operations

@[expose] public section

noncomputable section

namespace Cert.KernelIdeal.Hand

/-- An extended real that is no real. -/
def Inf (x : EReal) : Prop := x = ⊤ ∨ x = ⊥

theorem inf_or (x : EReal) : Inf x ∨ ∃ r : ℝ, x = r := by
  induction x with
  | bot => exact .inl (.inr rfl)
  | top => exact .inl (.inl rfl)
  | coe r => exact .inr ⟨r, rfl⟩

theorem not_inf_coe (r : ℝ) : ¬ Inf (r : EReal) := by
  rintro (h | h)
  · exact EReal.coe_ne_top r h
  · exact EReal.coe_ne_bot r h

/-- A sum is infinite if a term is. -/
theorem inf_add (a b : EReal) (h : Inf a ∨ Inf b) : Inf (a + b) := by
  rcases inf_or a with (rfl | rfl) | ⟨r, rfl⟩
  · rcases inf_or b with (rfl | rfl) | ⟨s, rfl⟩
    · exact .inl rfl
    · exact .inr rfl
    · exact .inl rfl
  · exact .inr (EReal.bot_add b)
  · rcases inf_or b with (rfl | rfl) | ⟨s, rfl⟩
    · exact .inl rfl
    · exact .inr rfl
    · exact absurd h (not_or.mpr ⟨not_inf_coe r, not_inf_coe s⟩)

theorem inf_neg (a : EReal) (h : Inf a) : Inf (-a) := by
  rcases h with rfl | rfl
  · exact .inr rfl
  · exact .inl rfl

/-- So is a difference. -/
theorem inf_sub (a b : EReal) (h : Inf a ∨ Inf b) : Inf (a - b) := by
  rw [sub_eq_add_neg]
  exact inf_add a (-b) (h.imp_right (inf_neg b))

/-- A nonzero real multiple of an infinite value is infinite. -/
theorem inf_coe_mul (c : ℝ) (hc : c ≠ 0) (a : EReal) (h : Inf a) : Inf (c * a) := by
  rcases lt_or_gt_of_ne hc with h0 | h0 <;> rcases h with rfl | rfl
  · exact .inr (EReal.coe_mul_top_of_neg h0)
  · exact .inl (EReal.coe_mul_bot_of_neg h0)
  · exact .inl (EReal.coe_mul_top_of_pos h0)
  · exact .inr (EReal.coe_mul_bot_of_pos h0)

/-- A linear form in forty variables: which of them it mentions, and with which coefficients. -/
abbrev Form := Fin 40 → Bool × ℤ

namespace Form

def add (f g : Form) : Form := fun h => ((f h).1 || (g h).1, (f h).2 + (g h).2)
def sub (f g : Form) : Form := fun h => ((f h).1 || (g h).1, (f h).2 - (g h).2)
def neg (f : Form) : Form := fun h => ((f h).1, -(f h).2)
def var (k : Fin 40) : Form := fun h => (decide (h = k), if h = k then 1 else 0)

end Form

/-- `e` is the value of the form `f` at `x`: infinite if a variable the form mentions is, otherwise the real sum. -/
def Rep (x : Fin 40 → EReal) (e : EReal) (f : Form) : Prop :=
  ((∃ h, (f h).1 = true ∧ Inf (x h)) ∧ Inf e) ∨
    ((∀ h, (f h).1 = true → ¬ Inf (x h)) ∧ e = ((∑ h, ((f h).2 : ℝ) * (x h).toReal : ℝ) : EReal))

variable {x : Fin 40 → EReal}

theorem Rep.var (k : Fin 40) : Rep x (x k) (Form.var k) := by
  unfold Rep Form.var
  rcases inf_or (x k) with h | ⟨r, h⟩
  · exact .inl ⟨⟨k, by simp, h⟩, h⟩
  · refine .inr ⟨fun j hj => ?_, ?_⟩
    · have : j = k := by simpa using hj
      rw [this, h]; exact not_inf_coe r
    · rw [h]
      congr 1
      rw [Finset.sum_eq_single k]
      · simp [h]
      · intro b _ hb; simp [hb]
      · intro hk; exact absurd (Finset.mem_univ k) hk

/-- The value of a sum of two forms is the sum of their values, … -/
theorem Rep.add {a b : EReal} {f g : Form} (ha : Rep x a f) (hb : Rep x b g) : Rep x (a + b) (f.add g) := by
  unfold Rep Form.add at *
  rcases ha with ⟨⟨h, hh, hx⟩, ha⟩ | ⟨hf, ha⟩
  · exact .inl ⟨⟨h, by simp [hh], hx⟩, inf_add a b (.inl ha)⟩
  rcases hb with ⟨⟨h, hh, hx⟩, hb⟩ | ⟨hg, hb⟩
  · exact .inl ⟨⟨h, by simp [hh], hx⟩, inf_add a b (.inr hb)⟩
  refine .inr ⟨fun h hh => ?_, ?_⟩
  · rcases Bool.or_eq_true_iff.mp hh with hh | hh
    · exact hf h hh
    · exact hg h hh
  · rw [ha, hb, ← EReal.coe_add, ← Finset.sum_add_distrib]
    congr 1
    exact Finset.sum_congr rfl fun h _ => by push_cast; ring

/-- … of a difference their difference, … -/
theorem Rep.sub {a b : EReal} {f g : Form} (ha : Rep x a f) (hb : Rep x b g) : Rep x (a - b) (f.sub g) := by
  unfold Rep Form.sub at *
  rcases ha with ⟨⟨h, hh, hx⟩, ha⟩ | ⟨hf, ha⟩
  · exact .inl ⟨⟨h, by simp [hh], hx⟩, inf_sub a b (.inl ha)⟩
  rcases hb with ⟨⟨h, hh, hx⟩, hb⟩ | ⟨hg, hb⟩
  · exact .inl ⟨⟨h, by simp [hh], hx⟩, inf_sub a b (.inr hb)⟩
  refine .inr ⟨fun h hh => ?_, ?_⟩
  · rcases Bool.or_eq_true_iff.mp hh with hh | hh
    · exact hf h hh
    · exact hg h hh
  · rw [ha, hb, ← EReal.coe_sub, ← Finset.sum_sub_distrib]
    congr 1
    exact Finset.sum_congr rfl fun h _ => by push_cast; ring

/-- … and of a negation the negation. -/
theorem Rep.neg {a : EReal} {f : Form} (ha : Rep x a f) : Rep x (-a) f.neg := by
  unfold Rep Form.neg at *
  rcases ha with ⟨hh, ha⟩ | ⟨hf, ha⟩
  · exact .inl ⟨hh, inf_neg a ha⟩
  refine .inr ⟨hf, ?_⟩
  rw [ha, ← EReal.coe_neg, ← Finset.sum_neg_distrib]
  congr 1
  exact Finset.sum_congr rfl fun h _ => by push_cast; ring

/-- A sum over all forty variables with nonzero integer coefficients is the value of the form they make. -/
theorem Rep.sum (c : Fin 40 → ℤ) (hc : ∀ h, c h ≠ 0) :
    Rep x (∑ h, ((c h : ℝ) : EReal) * x h) fun h => (true, c h) := by
  suffices H : ∀ s : Finset (Fin 40), ((∃ h ∈ s, Inf (x h)) ∧ Inf (∑ h ∈ s, ((c h : ℝ) : EReal) * x h)) ∨
      ((∀ h ∈ s, ¬ Inf (x h)) ∧ ∑ h ∈ s, ((c h : ℝ) : EReal) * x h = ((∑ h ∈ s, (c h : ℝ) * (x h).toReal : ℝ) : EReal)) by
    rcases H Finset.univ with ⟨⟨h, _, hx⟩, hs⟩ | ⟨hx, hs⟩
    · exact .inl ⟨⟨h, rfl, hx⟩, hs⟩
    · exact .inr ⟨fun h _ => hx h (Finset.mem_univ h), hs⟩
  intro s
  induction s using Finset.induction_on with
  | empty => exact .inr ⟨fun h hh => absurd hh (Finset.notMem_empty h), by simp⟩
  | insert k s hk ih =>
    rw [Finset.sum_insert hk, Finset.sum_insert hk]
    rcases inf_or (x k) with h | ⟨r, h⟩
    · exact .inl ⟨⟨k, Finset.mem_insert_self k s, h⟩,
        inf_add _ _ (.inl (inf_coe_mul _ (Int.cast_ne_zero.mpr (hc k)) _ h))⟩
    rcases ih with ⟨⟨j, hj, hx⟩, hs⟩ | ⟨hx, hs⟩
    · exact .inl ⟨⟨j, Finset.mem_insert_of_mem hj, hx⟩, inf_add _ _ (.inr hs)⟩
    · refine .inr ⟨fun j hj => ?_, ?_⟩
      · rcases Finset.mem_insert.mp hj with rfl | hj
        · rw [h]; exact not_inf_coe r
        · exact hx j hj
      · rw [hs, h, EReal.toReal_coe, EReal.coe_add, EReal.coe_mul]

/-- Two values agree: both are infinite, or they are one real. -/
def Agree (a b : EReal) : Prop := (Inf a ∧ Inf b) ∨ ∃ r : ℝ, a = r ∧ b = r

/-- Two values of one form agree. -/
theorem Rep.agree {a b : EReal} {f : Form} (ha : Rep x a f) (hb : Rep x b f) : Agree a b := by
  rcases ha with ⟨⟨h, hh, hx⟩, ha⟩ | ⟨hf, ha⟩
  · rcases hb with ⟨_, hb⟩ | ⟨hg, _⟩
    · exact .inl ⟨ha, hb⟩
    · exact absurd hx (hg h hh)
  · rcases hb with ⟨⟨h, hh, hx⟩, _⟩ | ⟨_, hb⟩
    · exact absurd hx (hf h hh)
    · exact .inr ⟨_, ha, hb⟩

/-- Values that agree still do after a multiplication by one nonzero real. -/
theorem Agree.mul_coe {a b : EReal} (h : Agree a b) (c : ℝ) (hc : c ≠ 0) : Agree (a * c) (b * c) := by
  rcases h with ⟨ha, hb⟩ | ⟨r, rfl, rfl⟩
  · exact .inl ⟨by rw [mul_comm]; exact inf_coe_mul c hc a ha, by rw [mul_comm]; exact inf_coe_mul c hc b hb⟩
  · exact .inr ⟨r * c, by rw [EReal.coe_mul], by rw [EReal.coe_mul]⟩

section Paley

variable {α β : Type} {addα subα : α → α → α} {negα : α → α} {addβ subβ : β → β → β} {negβ : β → β} {R : α → β → Prop}

/-- A relation the operations keep is kept by the whole transform. -/
theorem paley_rel (hadd : ∀ {a b c d}, R a c → R b d → R (addα a b) (addβ c d))
    (hsub : ∀ {a b c d}, R a c → R b d → R (subα a b) (subβ c d)) (hneg : ∀ {a c}, R a c → R (negα a) (negβ c))
    {u : Fin 20 → α} {v : Fin 20 → β} (h : ∀ p, R (u p) (v p)) (q : ℕ) :
    R (paley addα subα negα u q) (paley addβ subβ negβ v q) := by
  have hcond : ∀ {γ δ : Type} {S : γ → δ → Prop} (b : Bool) {s t : γ} {s' t' : δ}, S s s' → S t t' → S (cond b s t) (cond b s' t') := by
    intro _ _ _ b _ _ _ _ h1 h2; cases b
    · exact h2
    · exact h1
  have hg : ∀ g, R (paleyGroup addα subα u q g) (paleyGroup addβ subβ v q g) := fun g => by
    unfold paleyGroup quad
    exact hcond _ (hadd (hcond _ (hadd (h _) (h _)) (hsub (h _) (h _))) (hcond _ (hadd (h _) (h _)) (hsub (h _) (h _))))
      (hsub (hcond _ (hadd (h _) (h _)) (hsub (h _) (h _))) (hcond _ (hadd (h _) (h _)) (hsub (h _) (h _))))
  have hj : ∀ {s t} g, R s t → R (paleyJoin addα subα u q s g) (paleyJoin addβ subβ v q t g) := fun g hst => by
    unfold paleyJoin
    exact hcond _ (hadd hst (hg g)) (hsub hst (hg g))
  unfold paley
  exact hcond _ (hj 4 (hj 3 (hj 2 (hj 1 (hg 0))))) (hneg (hj 4 (hj 3 (hj 2 (hj 1 (hg 0))))))

end Paley

/-- Rotated head `h` of forty numbers, before the normalisation, over any operations. -/
def rot {α : Type} (add sub : α → α → α) (neg : α → α) (x : Fin 40 → α) (h : Fin 40) : α :=
  cond (Nat.blt h.val 20)
    (paley add sub neg (fun p => add (x ⟨p.val, by omega⟩) (x ⟨p.val + 20, by omega⟩)) h.val)
    (paley add sub neg (fun p => sub (x ⟨p.val, by omega⟩) (x ⟨p.val + 20, by omega⟩)) (h.val - 20))

/-- A relation the operations keep is kept by the rotation. -/
theorem rot_rel {α β : Type} {addα subα : α → α → α} {negα : α → α} {addβ subβ : β → β → β} {negβ : β → β} {R : α → β → Prop}
    (hadd : ∀ {a b c d}, R a c → R b d → R (addα a b) (addβ c d))
    (hsub : ∀ {a b c d}, R a c → R b d → R (subα a b) (subβ c d)) (hneg : ∀ {a c}, R a c → R (negα a) (negβ c))
    {u : Fin 40 → α} {v : Fin 40 → β} (h : ∀ p, R (u p) (v p)) (g : Fin 40) :
    R (rot addα subα negα u g) (rot addβ subβ negβ v g) := by
  unfold rot
  cases Nat.blt g.val 20
  · exact paley_rel hadd hsub hneg (fun p => hsub (h _) (h _)) _
  · exact paley_rel hadd hsub hneg (fun p => hadd (h _) (h _)) _

/-- The form the rotation makes: head `g` of the forty variables. -/
def rotForm (g : Fin 40) : Form := rot Form.add Form.sub Form.neg Form.var g

/-- The rotation of forty extended reals is the value of its form. -/
theorem rot_rep (x : Fin 40 → EReal) (g : Fin 40) :
    Rep x (rot (fun a b => a + b) (fun a b => a - b) (fun a => -a) x g) (rotForm g) :=
  rot_rel (R := Rep x) (fun h1 h2 => h1.add h2) (fun h1 h2 => h1.sub h2) (fun h => h.neg) (fun p => Rep.var p) g

end Cert.KernelIdeal.Hand

end
-- ==== Proof.Hadamard.lean ====
/- The signs of the reference's Hadamard matrix are the signs of the kernel's rotation, and what the two programs'
   constants are as real numbers. -/
module

public import proofs.«01_k».proof.ReferenceIdeal
public import proofs.«01_k».proof.Proof.Forms
public import Idealize.ShloMosaic.PureOps.Ideal
public import Idealize.ShloMosaic.Lib.IdealHost

@[expose] public section

noncomputable section

namespace Cert.KernelIdeal.Hand

open Idealize.ShloMosaic

/-- Plus or minus one of its 32-bit float pattern; zero of any other pattern. -/
def signOf (b : BitVec 32) : ℤ := if b = 0x3F800000#32 then 1 else if b = 0xBF800000#32 then -1 else 0

/-- The sign in row `h`, column `g` of the reference's matrix. -/
def hsign (h g : Fin 40) : ℤ := signOf (Cert.ReferenceIdeal.lit0 ⟨40 * h.val + g.val, by omega⟩)

set_option maxRecDepth 16384 in
/-- Every entry of the matrix is plus or minus one, … -/
theorem hsign_ne : ∀ h g : Fin 40, hsign h g ≠ 0 := by decide +kernel

set_option maxRecDepth 16384 in
/-- … and it is the coefficient the kernel's grouping gives variable `h` in rotated head `g`. -/
theorem rotForm_eq : ∀ g h : Fin 40, rotForm g h = (true, hsign h g) := by decide +kernel

theorem f32_one : Ideal.ofBits .f32 0x3F800000#32 = ((1 : ℝ) : EReal) := by
  simp [Ideal.ofBits, Ideal.ieee, -EReal.coe_mul, -EReal.coe_one]; norm_num
theorem f32_neg_one : Ideal.ofBits .f32 0xBF800000#32 = ((-1 : ℝ) : EReal) := by
  simp [Ideal.ofBits, Ideal.ieee, -EReal.coe_mul, -EReal.coe_neg]; norm_num
theorem f32_seven : Ideal.ofBits .f32 0x40E00000#32 = ((7 : ℝ) : EReal) := by
  simp [Ideal.ofBits, Ideal.ieee, -EReal.coe_mul]; norm_num
theorem f32_eight : Ideal.ofBits .f32 0x41000000#32 = ((8 : ℝ) : EReal) := by
  simp [Ideal.ofBits, Ideal.ieee, -EReal.coe_mul]; norm_num
theorem f32_512 : Ideal.ofBits .f32 0x44000000#32 = ((512 : ℝ) : EReal) := by
  simp [Ideal.ofBits, Ideal.ieee, -EReal.coe_mul]; norm_num
theorem f32_bot : Ideal.ofBits .f32 0xFF800000#32 = ⊥ := by
  simp [Ideal.ofBits, Ideal.ieee]
/-- The normalisation is a nonzero real. -/
theorem f32_norm : ∃ c : ℝ, c ≠ 0 ∧ Ideal.ofBits .f32 0x3E21E89B#32 = (c : EReal) := by
  refine ⟨10610843 * (2 : ℝ) ^ (-26 : ℤ), by positivity, ?_⟩
  simp [Ideal.ofBits, Ideal.ieee, -EReal.coe_mul]

/-- An entry of the reference's matrix, as an extended real. -/
theorem lit0_eq (h g : Fin 40) :
    Ideal.ofBits .f32 (Cert.ReferenceIdeal.lit0 ⟨40 * h.val + g.val, by omega⟩) = ((hsign h g : ℝ) : EReal) := by
  have hne := hsign_ne h g
  unfold hsign signOf at *
  by_cases h1 : Cert.ReferenceIdeal.lit0 ⟨40 * h.val + g.val, by omega⟩ = 0x3F800000#32
  · rw [if_pos h1, h1, f32_one]; norm_num
  · rw [if_neg h1] at hne ⊢
    by_cases h2 : Cert.ReferenceIdeal.lit0 ⟨40 * h.val + g.val, by omega⟩ = 0xBF800000#32
    · rw [if_pos h2, h2, f32_neg_one]; norm_num
    · rw [if_neg h2] at hne; exact absurd rfl hne

/-- One rotated head: the kernel's grouping of it and the reference's sum agree. -/
theorem rot_agree (x : Fin 40 → EReal) (g : Fin 40) :
    Agree (rot (fun a b => a + b) (fun a b => a - b) (fun a => -a) x g) (∑ h, ((hsign h g : ℝ) : EReal) * x h) := by
  refine (rot_rep x g).agree ?_
  rw [show rotForm g = fun h => (true, hsign h g) from funext (rotForm_eq g)]
  exact Rep.sum (fun h => hsign h g) fun h => hsign_ne h g

end Cert.KernelIdeal.Hand

end
-- ==== Proof.Quant.lean ====
/- The four-bit quantiser on extended reals: the scale of a row and the codes of its entries, and why they do not
   depend on how an infinite entry was reached. -/
module

public import proofs.«01_k».proof.Proof.Hadamard

@[expose] public section

noncomputable section

namespace Cert.KernelIdeal.Hand

open Idealize.ShloMosaic

/-- The magnitude of an extended real. -/
def mag (a : EReal) : EReal := max a (-a)

theorem mag_inf (a : EReal) (h : Inf a) : mag a = ⊤ := by
  rcases h with rfl | rfl <;> simp [mag]

/-- Values that agree have one magnitude. -/
theorem Agree.mag {a b : EReal} (h : Agree a b) : mag a = mag b := by
  rcases h with ⟨ha, hb⟩ | ⟨r, rfl, rfl⟩
  · rw [mag_inf a ha, mag_inf b hb]
  · rfl

/-- The largest magnitude of a row. -/
def amaxE (z : Fin 5120 → EReal) : EReal := Finset.univ.fold max ⊥ fun p => mag (z p)

theorem mag_le_amaxE (z : Fin 5120 → EReal) (p : Fin 5120) : mag (z p) ≤ amaxE z :=
  Finset.le_sup (f := fun p => mag (z p)) (Finset.mem_univ p)

theorem amaxE_le (z : Fin 5120 → EReal) (b : EReal) (h : ∀ p, mag (z p) ≤ b) : amaxE z ≤ b :=
  Finset.sup_le (f := fun p => mag (z p)) fun p _ => h p

/-- The scale of a row whose largest magnitude is `A`: a seventh of it, or one where it is zero. -/
def scaleE (A : EReal) : EReal := if 0 < A then Ideal.div A ((7 : ℝ) : EReal) else ((1 : ℝ) : EReal)

/-- The code of an entry at a scale: the quotient rounded to nearest even and clipped to seven. -/
def codeE (z s : EReal) : EReal :=
  min ((7 : ℝ) : EReal) (max ((-7 : ℝ) : EReal) (Ideal.liftRound Ideal.roundHalfEven (Ideal.div z s)))

/-- Rows whose entries agree have one largest magnitude … -/
theorem amaxE_congr {z z' : Fin 5120 → EReal} (h : ∀ p, Agree (z p) (z' p)) : amaxE z = amaxE z' := by
  unfold amaxE
  rw [show (fun p => mag (z p)) = fun p => mag (z' p) from funext fun p => (h p).mag]

/-- An infinite entry at the scale of a row with an infinite magnitude has quotient zero. -/
theorem div_scale_top (a : EReal) : Ideal.div a (scaleE ⊤) = 0 := by
  have h7 : scaleE ⊤ = ⊤ := by
    unfold scaleE
    rw [if_pos (by simp)]
    unfold Ideal.div
    rw [if_neg (by norm_num), ← EReal.coe_inv]
    exact EReal.top_mul_coe_of_pos (by norm_num)
  rw [h7]
  unfold Ideal.div
  rw [if_neg (by simp)]
  simp

/-- … and the same codes: an infinite entry makes the scale infinite, and its code zero. -/
theorem codeE_congr {z z' : Fin 5120 → EReal} (h : ∀ p, Agree (z p) (z' p)) (p : Fin 5120) :
    codeE (z p) (scaleE (amaxE z)) = codeE (z' p) (scaleE (amaxE z)) := by
  rcases h p with ⟨ha, hb⟩ | ⟨r, ha, hb⟩
  · have ht : amaxE z = ⊤ := top_le_iff.mp ((mag_inf _ ha).symm.le.trans (mag_le_amaxE z p))
    unfold codeE
    rw [ht, div_scale_top, div_scale_top]
  · rw [ha, hb]

/-- Every code is an integer between minus seven and seven. -/
theorem codeE_int (z s : EReal) : ∃ n : ℤ, -7 ≤ n ∧ n ≤ 7 ∧ codeE z s = ((n : ℝ) : EReal) := by
  unfold codeE
  rcases inf_or (Ideal.div z s) with (h | h) | ⟨r, h⟩ <;> rw [h]
  · refine ⟨7, by norm_num, by norm_num, ?_⟩
    rw [Ideal.liftRound_top, max_eq_right le_top, min_eq_left le_top]; norm_num
  · refine ⟨-7, by norm_num, by norm_num, ?_⟩
    rw [Ideal.liftRound_bot, max_eq_left bot_le, min_eq_right (EReal.coe_le_coe_iff.mpr (by norm_num))]; norm_num
  · refine ⟨min 7 (max (-7) (Ideal.roundHalfEven r)), by omega, by omega, ?_⟩
    have hm : Monotone ((↑) : ℝ → EReal) := EReal.coe_strictMono.monotone
    rw [Ideal.liftRound_coe, ← hm.map_max, ← hm.map_min]
    norm_num

/-- Converting an integer code to an eight-bit or a 32-bit integer gives that integer. -/
theorem fptosi_int (w : ℕ) (n : ℤ) (hlo : -(2 ^ (w - 1) : ℕ) ≤ n) (hhi : n ≤ ((2 ^ (w - 1) : ℕ) : ℤ) - 1) :
    Ideal.fptosi w ((n : ℝ) : EReal) = BitVec.ofInt w n := by
  unfold Ideal.fptosi
  congr 1
  show max _ (min _ (if (0 : ℝ) ≤ (n : ℝ) then ⌊(n : ℝ)⌋ else ⌈(n : ℝ)⌉)) = n
  rw [Int.floor_intCast, Int.ceil_intCast, ite_self, min_eq_right hhi, max_eq_right hlo]

/-- The eight-bit code is the low byte of the 32-bit one, … -/
theorem fptosi_codeE_8 (z s : EReal) : Ideal.fptosi 8 (codeE z s) = (Ideal.fptosi 32 (codeE z s)).setWidth 8 := by
  obtain ⟨n, h1, h2, h⟩ := codeE_int z s
  rw [h, fptosi_int 8 n (by norm_num; omega) (by norm_num; omega), fptosi_int 32 n (by norm_num; omega) (by norm_num; omega)]
  interval_cases n <;> decide

/-- … which, read back as a number, is the code. -/
theorem toInt_fptosi_codeE (z s : EReal) : (((Ideal.fptosi 32 (codeE z s)).toInt : ℝ) : EReal) = codeE z s := by
  obtain ⟨n, h1, h2, h⟩ := codeE_int z s
  rw [h, fptosi_int 32 n (by norm_num; omega) (by norm_num; omega)]
  have : (BitVec.ofInt 32 n).toInt = n := by interval_cases n <;> decide
  rw [this]

end Cert.KernelIdeal.Hand

end
-- ==== Proof.KRead.lean ====
/- The kernel's named quantities read at an index, over extended reals. -/
module

public import proofs.«01_k».proof.Proof.Quant
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- Entry `l` of head `h` of row `r`. -/
theorem headV_apply (x : Vec Ideal S24x5120 .bf16) (h : Fin 40) (r : Fin 24) (l : Fin 128) :
    headV x h (ix2 r l) = x (ix2 r ⟨128 * h.val + l.val, by omega⟩) := by
  pointwise [headV]

/-- Entry `l` of rotated head `h` of row `r`. -/
theorem zV_apply (x : Vec Ideal S24x5120 .bf16) (h : Fin 40) (r : Fin 24) (l : Fin 128) :
    zV x h (ix2 r l) = rot (fun a b : EReal => a + b) (fun a b => a - b) (fun a => -a)
      (fun p => x (ix2 r ⟨128 * p.val + l.val, by omega⟩)) h * Ideal.ofBits .f32 0x3E21E89B#32 := by
  have hr : rotV x h (ix2 r l) = rot (fun a b : EReal => a + b) (fun a b => a - b) (fun a => -a)
      (fun p => x (ix2 r ⟨128 * p.val + l.val, by omega⟩)) h := by
    show rot addf subf negf (headV x) h (ix2 r l) = _
    refine rot_rel (R := fun (v : FVec Ideal S24x128 .f32) (e : EReal) => v (ix2 r l) = e) ?_ ?_ ?_ (fun p => headV_apply x p r l) h
    · rintro a b c d rfl rfl; rfl
    · rintro a b c d rfl rfl; rfl
    · rintro a c rfl; rfl
  show rotV x h (ix2 r l) * _ = _
  rw [hr]
  rfl

/-- The entries of row `r` of the rotated input. -/
def zRow (x : Vec Ideal S24x5120 .bf16) (r : Fin 24) (p : Fin 5120) : EReal :=
  zV x ⟨p.val / 128, by omega⟩ (ix2 r ⟨p.val % 128, Nat.mod_lt _ (by decide)⟩)

theorem zRow_eq (x : Vec Ideal S24x5120 .bf16) (r : Fin 24) (h : Fin 40) (l : Fin 128) :
    zRow x r ⟨128 * h.val + l.val, by omega⟩ = zV x h (ix2 r l) := by
  have e1 : (⟨(128 * h.val + l.val) / 128, by omega⟩ : Fin 40) = h := Fin.ext (by show (128 * h.val + l.val) / 128 = h.val; omega)
  have e2 : (⟨(128 * h.val + l.val) % 128, Nat.mod_lt _ (by decide)⟩ : Fin 128) = l :=
    Fin.ext (by show (128 * h.val + l.val) % 128 = l.val; omega)
  unfold zRow
  dsimp only
  rw [e1, e2]

/-- The scale of row `r`. -/
def scaleRow (x : Vec Ideal S24x5120 .bf16) (r : Fin 24) : EReal := scaleE (amaxE (zRow x r))

/-- The codes of row `r`. -/
def codeRow (x : Vec Ideal S24x5120 .bf16) (r : Fin 24) (p : Fin 5120) : EReal := codeE (zRow x r p) (scaleRow x r)

/-- The tree of maxima is below what every one of the forty is below. -/
theorem tree40_le (v : Fin 40 → EReal) (b : EReal) : tree40 max v ≤ b ↔ ∀ h, v h ≤ b := by
  unfold tree40
  simp only [max_le_iff]
  constructor
  · intro H h
    fin_cases h <;> simp only [Fin.isValue, Fin.zero_eta, Fin.mk_one, Fin.reduceFinMk] <;> tauto
  · intro H
    simp only [H, and_self]

/-- The tree of vectors, read at an index, is the tree of what they hold there. -/
theorem tree40_apply (v : Fin 40 → FVec Ideal S24x128 .f32) (i : S24x128.Idx) :
    tree40 maximumf v i = tree40 max fun h => v h i := rfl

/-- The largest magnitude of row `r`. -/
theorem amaxOf_apply (x : Vec Ideal S24x5120 .bf16) (r : Fin 24) : amaxOf (zV x) (ix2 r 0) = amaxE (zRow x r) := by
  pointwise [amaxOf]
  simp only [f32_bot, tree40_apply]
  have hm (l : Fin 128) (h : Fin 40) : absf (zV x h) (ix2 r l) = mag (zV x h (ix2 r l)) := rfl
  simp only [hm]
  apply le_antisymm
  · refine Finset.sup_le (f := fun l => tree40 max fun h => mag (zV x h (ix2 r l))) fun l _ => (tree40_le _ _).mpr fun h => ?_
    rw [← zRow_eq]
    exact mag_le_amaxE _ _
  · refine amaxE_le _ _ fun p => ?_
    refine le_trans ?_ (Finset.le_sup (f := fun l => tree40 max fun h => mag (zV x h (ix2 r l)))
      (Finset.mem_univ (⟨p.val % 128, Nat.mod_lt _ (by decide)⟩ : Fin 128)))
    exact (tree40_le (fun h => mag (zV x h (ix2 r ⟨p.val % 128, Nat.mod_lt _ (by decide)⟩))) _).mp (le_refl _)
      ⟨p.val / 128, by omega⟩

/-- The scale of row `r` … -/
theorem scaleV_apply (x : Vec Ideal S24x5120 .bf16) (r : Fin 24) : scaleV x (ix2 r 0) = scaleRow x r := by
  pointwise [scaleV, scaleOf]
  rw [amaxOf_apply, f32_seven]
  rfl

/-- … and its codes. -/
theorem codeV_apply (x : Vec Ideal S24x5120 .bf16) (h : Fin 40) (r : Fin 24) (l : Fin 128) :
    codeV x h (ix2 r l) = codeRow x r ⟨128 * h.val + l.val, by omega⟩ := by
  pointwise [codeV, codeOf]
  rw [scaleV_apply, ← zRow_eq]
  rw [show (7#32 : BitVec 32).toInt = 7 from by decide, show (4294967289#32 : BitVec 32).toInt = -7 from by decide]
  unfold codeRow codeE
  norm_num

theorem chain_apply (i : S24x128.Idx) (z : FVec Ideal S24x128 .f32) : (n : ℕ) → (v : Fin n → FVec Ideal S24x128 .f32) →
    chain addf z n v i = z i + ∑ h, v h i
  | 0, _ => by simp [chain]
  | n + 1, v => by
    rw [Fin.sum_univ_castSucc, ← add_assoc, ← chain_apply i z n]
    rfl

/-- Forty sums of 128 are one of 5120. -/
theorem sum_heads (f : Fin 5120 → EReal) :
    ∑ l : Fin 128, ∑ h : Fin 40, f ⟨128 * h.val + l.val, by omega⟩ = ∑ p, f p := by
  rw [Finset.sum_comm, ← Fintype.sum_prod_type']
  refine Fintype.sum_equiv (finProdFinEquiv (m := 40) (n := 128)) _ _ fun p => ?_
  congr 1
  exact Fin.ext (by simp [finProdFinEquiv, add_comm])

/-- The sum of row `r`'s codes. -/
theorem sumV_apply (x : Vec Ideal S24x5120 .bf16) (r : Fin 24) : sumV x (ix2 r 0) = ∑ p, codeRow x r p := by
  pointwise [sumV, sumOf]
  rw [← sum_heads]
  refine Finset.sum_congr rfl fun l _ => ?_
  rw [chain_apply]
  simp only [codeV_apply]
  exact zero_add _

/-- The left operand's entries are the codes … -/
theorem lhsV_apply (x : Vec Ideal S24x5120 .bf16) (r : Fin 24) (p : Fin 5120) : lhsV x (ix2 r p) = codeRow x r p := by
  have e : (⟨128 * (p.val / 128) + p.val % 128, by omega⟩ : Fin 5120) = p := Fin.ext (by show 128 * (p.val / 128) + p.val % 128 = p.val; omega)
  have h := codeV_apply x ⟨p.val / 128, by omega⟩ r ⟨p.val % 128, Nat.mod_lt _ (by decide)⟩
  dsimp only at h
  rw [e] at h
  rw [← h]
  have hi : inHead (ix2 r p : S24x5120.Idx) = ix2 r ⟨p.val % 128, Nat.mod_lt _ (by decide)⟩ := by
    funext a
    fin_cases a <;> rfl
  unfold lhsV sideBySide
  dsimp only
  rw [hi]
  pointwise

/-- … and the integer codes their conversions. -/
theorem codesV_apply (x : Vec Ideal S24x5120 .bf16) (r : Fin 24) (p : Fin 5120) :
    codesV x (ix2 r p) = Ideal.fptosi 8 (codeRow x r p) := by
  have e : (⟨128 * (p.val / 128) + p.val % 128, by omega⟩ : Fin 5120) = p := Fin.ext (by show 128 * (p.val / 128) + p.val % 128 = p.val; omega)
  have h := codeV_apply x ⟨p.val / 128, by omega⟩ r ⟨p.val % 128, Nat.mod_lt _ (by decide)⟩
  dsimp only at h
  rw [e] at h
  rw [← h]
  have hi : inHead (ix2 r p : S24x5120.Idx) = ix2 r ⟨p.val % 128, Nat.mod_lt _ (by decide)⟩ := by
    funext a
    fin_cases a <;> rfl
  unfold codesV sideBySide
  dsimp only
  rw [hi]
  rfl

end Cert.KernelIdeal.Hand

end
-- ==== Proof.Bytes.lean ====
/- The packed weights: what the kernel's word operations leave in each byte, what number an eight-bit float with that
   pattern is, and the signed four-bit value the reference reads from the same byte. -/
module

public import proofs.«01_k».proof.Proof.Hadamard
public import Idealize.ShloMosaic.Lib.BitcastFour
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The low four bits of a byte, the top one of them flipped. -/
def loB (b : BitVec 8) : BitVec 8 := (b ^^^ 0x88#8) &&& 0x0F#8
/-- The high four bits of a byte, the top one of them flipped. -/
def hiB (b : BitVec 8) : BitVec 8 := ((b ^^^ 0x88#8) >>> 4) &&& 0x0F#8

/-- The four bits as the reference signs them, in 32 bits: minus sixteen from eight on. -/
def signed4 (v : BitVec 32) : BitVec 32 := v - 16#32 * (IntOp.cmpi .sge v 8#32).setWidth 32

/-- The flipped pattern is the signed value plus eight, for the low bits … -/
theorem signed4_lo : ∀ b : BitVec 8, (signed4 (b.setWidth 32 &&& 15#32)).toInt = ((loB b).toNat : ℤ) - 8 := by decide +kernel
/-- … and for the high. -/
theorem signed4_hi : ∀ b : BitVec 8, (signed4 (IntOp.shrsi .host (b.setWidth 32) 4#32)).toInt = ((hiB b).toNat : ℤ) - 8 := by
  decide +kernel

theorem loB_lt : ∀ b : BitVec 8, (loB b).toNat < 16 := by decide +kernel
theorem hiB_lt : ∀ b : BitVec 8, (hiB b).toNat < 16 := by decide +kernel

/-- An eight-bit float whose pattern is below sixteen is its pattern over 512. -/
theorem fp8_small (b : BitVec 8) (h : b.toNat < 16) : Ideal.ofBits .fp8e4m3 b = ((b.toNat / 512 : ℝ) : EReal) := by
  obtain ⟨n, hn, rfl⟩ : ∃ n : ℕ, n < 16 ∧ b = BitVec.ofNat 8 n := ⟨b.toNat, h, by simp⟩
  clear h
  interval_cases n <;> simp [Ideal.ofBits, Ideal.e4m3fn, -EReal.coe_mul] <;> norm_num

/-- Words read as bytes: bit `i` of the byte in row `k` of a column is bit `8 (k mod 4) + i` of the word in row `k / 4`. -/
theorem bitcast_32_8_getLsbD (W : IVec S640x512 32) (k : Fin 2560) (o : Fin 512) (i : ℕ) (hi : i < 8) :
    (bitcast S2560x512 8 W bitcasts_S640x512_w32_S2560x512_w8 (ix2 k o)).getLsbD i
      = (W (ix2 ⟨k.val / 4, by omega⟩ o)).getLsbD (8 * (k.val % 4) + i) := by
  rw [bitcast_getLsbD W bitcasts_S640x512_w32_S2560x512_w8 (ix2 k o) i hi (by decide)]
  have hr : S2560x512.row (ix2 k o) = k.val := rfl
  congr 1
  · congr 1
    funext c
    match c with
    | ⟨0, _⟩ =>
      refine Fin.ext ((Shape.Bitcasts.srcIdx_row _ _ _ _ ⟨0, Nat.zero_lt_two⟩ rfl).trans ?_)
      show (S2560x512.row (ix2 k o) * 8 + i) / 32 = k.val / 4
      rw [hr]; omega
    | ⟨1, _⟩ => exact Fin.ext (Shape.Bitcasts.srcIdx_other _ _ _ _ ⟨1, Nat.one_lt_two⟩ (by show ¬ 1 + 2 = 2; omega))
  · rw [hr]; omega

/-- Bytes read as words, at the bit the byte in row `k` puts there. -/
theorem bitcast_8_32_bit (V : IVec S2560x512 8) (k : Fin 2560) (o : Fin 512) (i : ℕ) (hi : i < 8) :
    (bitcast S640x512 32 V bitcasts_S2560x512_w8_S640x512_w32 (ix2 ⟨k.val / 4, by omega⟩ o)).getLsbD (8 * (k.val % 4) + i)
      = (V (ix2 k o)).getLsbD i := by
  have e := bitcast_8_32_getLsbD_ix2 V bitcasts_S2560x512_w8_S640x512_w32 ⟨k.val / 4, by omega⟩ o (8 * (k.val % 4) + i) (by omega) k
    (by show k.val = 4 * (k.val / 4) + (8 * (k.val % 4) + i) / 8; omega)
  rw [show (8 * (k.val % 4) + i) % 8 = i by omega] at e
  exact e

/-- The bits of the two masks, one byte of four alike. -/
theorem mask_flip : ∀ (q : Fin 4) (i : Fin 8), (2290649224#32 : BitVec 32).getLsbD (8 * q.val + i.val) = (0x88#8 : BitVec 8).getLsbD i.val := by
  decide
theorem mask_low : ∀ (q : Fin 4) (i : Fin 8), (252645135#32 : BitVec 32).getLsbD (8 * q.val + i.val) = (0x0F#8 : BitVec 8).getLsbD i.val := by
  decide

/-- The kernel's low halves: every byte by itself. -/
theorem lo_byte (V : IVec S2560x512 8) (k : Fin 2560) (o : Fin 512) :
    bitcast S2560x512 8 (andi (xori (bitcast S640x512 32 V bitcasts_S2560x512_w8_S640x512_w32) (broadcast S640x512 2290649224#32))
      (broadcast S640x512 252645135#32)) bitcasts_S640x512_w32_S2560x512_w8 (ix2 k o) = loB (V (ix2 k o)) := by
  apply BitVec.eq_of_getLsbD_eq
  intro i hi
  rw [bitcast_32_8_getLsbD _ k o i hi]
  show ((bitcast S640x512 32 V bitcasts_S2560x512_w8_S640x512_w32 (ix2 ⟨k.val / 4, by omega⟩ o) ^^^ 2290649224#32) &&& 252645135#32).getLsbD _ = _
  unfold loB
  rw [BitVec.getLsbD_and, BitVec.getLsbD_xor, BitVec.getLsbD_and, BitVec.getLsbD_xor, bitcast_8_32_bit V k o i hi,
    mask_flip ⟨k.val % 4, by omega⟩ ⟨i, hi⟩, mask_low ⟨k.val % 4, by omega⟩ ⟨i, hi⟩]

/-- The kernel's high halves: what a shift brings over from the next byte is masked away. -/
theorem hi_byte (V : IVec S2560x512 8) (k : Fin 2560) (o : Fin 512) :
    bitcast S2560x512 8 (andi (shrui (xori (bitcast S640x512 32 V bitcasts_S2560x512_w8_S640x512_w32) (broadcast S640x512 2290649224#32))
      (broadcast S640x512 4#32)) (broadcast S640x512 252645135#32)) bitcasts_S640x512_w32_S2560x512_w8 (ix2 k o) = hiB (V (ix2 k o)) := by
  apply BitVec.eq_of_getLsbD_eq
  intro i hi
  rw [bitcast_32_8_getLsbD _ k o i hi]
  show (((bitcast S640x512 32 V bitcasts_S2560x512_w8_S640x512_w32 (ix2 ⟨k.val / 4, by omega⟩ o) ^^^ 2290649224#32) >>> (4#32 : BitVec 32)) &&& 252645135#32).getLsbD _ = _
  unfold hiB
  rw [BitVec.getLsbD_and, BitVec.getLsbD_and, mask_low ⟨k.val % 4, by omega⟩ ⟨i, hi⟩]
  by_cases h4 : i < 4
  · congr 1
    rw [show ((4#32 : BitVec 32)) = 4#32 from rfl, BitVec.ushiftRight_eq', BitVec.getLsbD_ushiftRight, BitVec.getLsbD_ushiftRight,
      BitVec.getLsbD_xor, BitVec.getLsbD_xor,
      show (4#32 : BitVec 32).toNat + (8 * (k.val % 4) + i) = 8 * (k.val % 4) + (4 + i) by show 4 + _ = _; omega,
      bitcast_8_32_bit V k o (4 + i) (by omega), mask_flip ⟨k.val % 4, by omega⟩ ⟨4 + i, by omega⟩]
  · have : (0x0F#8 : BitVec 8).getLsbD i = false := by
      have : 4 ≤ i := by omega
      interval_cases i <;> rfl
    rw [this, Bool.and_false, Bool.and_false]

end Cert.KernelIdeal.Hand

end
-- ==== Proof.OutRead.lean ====
/- A block of the kernel's result read at an index, and the arithmetic that takes the offset of the weights off again. -/
module

public import proofs.«01_k».proof.Proof.KRead
public import proofs.«01_k».proof.Proof.Bytes

@[expose] public section

set_option maxRecDepth 16384

noncomputable section

namespace Cert.KernelIdeal.Hand

open Cert.KernelIdeal Cert.KernelIdeal.Gen
open Idealize.ShloMosaic Idealize.ShloMosaic.TcCoe

/-- Sums of reals, as extended reals. -/
theorem sum_coe {n : ℕ} (f : Fin n → ℝ) : ∑ k, ((f k : ℝ) : EReal) = ((∑ k, f k : ℝ) : EReal) := by
  suffices H : ∀ s : Finset (Fin n), ∑ k ∈ s, ((f k : ℝ) : EReal) = ((∑ k ∈ s, f k : ℝ) : EReal) from H Finset.univ
  intro s
  induction s using Finset.induction_on with
  | empty => simp
  | insert a s ha ih => rw [Finset.sum_insert ha, Finset.sum_insert ha, ih, EReal.coe_add]

/-- A block of the result at an index: the two products over the halves of the codes, scaled back, less eight times the
    sum of the codes, times the two scales. -/
theorem outV_apply (L : Vec Ideal S24x5120 .bf16) (S : Vec Ideal S24x1 .f32) (s : Vec Ideal S24x1 .f32) (w : Vec Ideal S512x2560 .i8)
    (ws : Vec Ideal S1x512 .f32) (r : Fin 24) (o : Fin 512) :
    outV L S s w ws (ix2 r o)
      = ((∑ k : Fin 2560, L (ix2 r ⟨k.val, by omega⟩) * (((loB (w (ix2 o k))).toNat / 512 : ℝ) : EReal)
            + ∑ k : Fin 2560, L (ix2 r ⟨2560 + k.val, by omega⟩) * (((hiB (w (ix2 o k))).toNat / 512 : ℝ) : EReal)) * ((512 : ℝ) : EReal)
          - S (ix2 r 0) * ((8 : ℝ) : EReal)) * s (ix2 r 0) * ws (ix2 0 o) := by
  pointwise [outV, k0_pay1, k0_pay435]
  have ht (k : Fin 2560) : transpose S2560x512 [1, 0] w transposes_S512x2560_p1_0_S2560x512 (ix2 k o) = w (ix2 o k) := by pointwise
  simp only [lo_byte, hi_byte, ht, fp8_small _ (loB_lt _), fp8_small _ (hiB_lt _), f32_512, f32_eight]

/-- With integer codes, that difference is the sum of the codes times the signed four-bit values. -/
theorem offset_off (c : Fin 5120 → EReal) (hc : ∀ p, ∃ n : ℤ, c p = ((n : ℝ) : EReal)) (u v : Fin 2560 → ℕ) :
    (∑ k : Fin 2560, c ⟨k.val, by omega⟩ * ((u k / 512 : ℝ) : EReal)
        + ∑ k : Fin 2560, c ⟨2560 + k.val, by omega⟩ * ((v k / 512 : ℝ) : EReal)) * ((512 : ℝ) : EReal)
        - (∑ p, c p) * ((8 : ℝ) : EReal)
      = ∑ k : Fin 2560, c ⟨k.val, by omega⟩ * ((((u k : ℤ) - 8 : ℤ) : ℝ) : EReal)
        + ∑ k : Fin 2560, c ⟨2560 + k.val, by omega⟩ * ((((v k : ℤ) - 8 : ℤ) : ℝ) : EReal) := by
  choose n hn using hc
  simp only [hn, ← EReal.coe_mul, sum_coe, ← EReal.coe_add, ← EReal.coe_sub]
  congr 1
  have hs : ∑ p : Fin 5120, (n p : ℝ) = ∑ k : Fin 2560, (n ⟨k.val, by omega⟩ : ℝ) + ∑ k : Fin 2560, (n ⟨2560 + k.val, by omega⟩ : ℝ) :=
    Fin.sum_univ_add (a := 2560) (b := 2560) fun p : Fin (2560 + 2560) => (n p : ℝ)
  rw [hs, add_mul, add_mul, Finset.sum_mul, Finset.sum_mul, Finset.sum_mul, Finset.sum_mul, add_sub_add_comm,
    ← Finset.sum_sub_distrib, ← Finset.sum_sub_distrib]
  congr 1 <;> refine Finset.sum_congr rfl fun k _ => ?_ <;> push_cast <;> ring

end Cert.KernelIdeal.Hand

end
-- ==== Proof.RRead.lean ====
/- The reference's values by name, and each of them read at an index over extended reals. -/
module

public import proofs.«01_k».proof.Proof.Quant
public import proofs.«01_k».proof.Proof.Bytes
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (mag amaxE scaleE codeE hsign lit0_eq f32_bot f32_seven f32_one signed4 toInt_fptosi_codeE loB hiB signed4_lo signed4_hi)

/-- The rotated input. -/
def zR (x : Vec Ideal S24x1x5120 .bf16) : FVec Ideal S24x1x5120 .f32 :=
  shapeCast _ (mulf (transpose S24x1x40x128 [1, 2, 0, 3] (Host.dotGeneral dot_S40x40_S24x1x40x128_S40x24x1x128_0_2_1_013_n_n (some .fp32) ((fun i => FloatOps.ofBits .f32 (lit0 (S40x40.rowMajor i)))) (extf .f32 (shapeCast _ x shapeCasts_S24x1x5120_S24x1x40x128) bitsLt_bf16_f32)) transposes_S40x24x1x128_S24x1x40x128_1_2_0_3) (broadcastInDim S24x1x40x128 ![] bcast_S_S24x1x40x128 (constant S_ .f32 0x3E21E89B#32))) shapeCasts_S24x1x40x128_S24x1x5120

/-- The largest magnitude of each row. -/
def aR (Z : FVec Ideal S24x1x5120 .f32) : FVec Ideal S24x1 .f32 :=
  Host.reduce FloatOps.maximumf (Host.absf Z) (constant S_ .f32 0xFF800000#32) reducesTo_S24x1x5120_S24x1_d2 h_S_

/-- The scale of each row. -/
def sR (A : FVec Ideal S24x1 .f32) : FVec Ideal S24x1 .f32 :=
  select (cmpf .ogt A (broadcastInDim S24x1 ![] bcast_S_S24x1 (constant S_ .f32 0x00000000#32)))
    (Host.divf A (broadcastInDim S24x1 ![] bcast_S_S24x1 (constant S_ .f32 0x40E00000#32)))
    (broadcastInDim S24x1 ![] bcast_S_S24x1 (id (constant S_ .f32 0x3F800000#32)))

/-- The codes, as 32-bit integers. -/
def cR (Z : FVec Ideal S24x1x5120 .f32) (s : FVec Ideal S24x1 .f32) : IVec S24x1x5120 32 :=
  fptosi 32 (minimumf (broadcastInDim S24x1x5120 ![] bcast_S_S24x1x5120 (sitofp .f32 (constantI S_ 32 7#32)))
    (maximumf (broadcastInDim S24x1x5120 ![] bcast_S_S24x1x5120 (sitofp .f32 (constantI S_ 32 4294967289#32)))
      (Host.roundeven (Host.divf Z (broadcastInDim S24x1x5120 ![0, 1, 2] bcast_S24x1x1_S24x1x5120_0_1_2
        (broadcastInDim S24x1x1 ![0, 1] bcast_S24x1_S24x1x1_0_1 s))))))

/-- Four-bit patterns, signed. -/
def nibR (v : IVec S5120x2560 32) : IVec S5120x2560 32 :=
  subi v (muli (broadcastInDim S5120x2560 ![] bcast_S_S5120x2560 (constantI S_ 32 16#32))
    (extui 32 (cmpi .sge v (broadcastInDim S5120x2560 ![] bcast_S_S5120x2560 (constantI S_ 32 8#32))) natLt_1_32))

/-- The output, from the integer codes, the scales, the packed weights and their scales. -/
def oR (C : IVec S24x1x5120 32) (s : FVec Ideal S24x1 .f32) (w : IVec S5120x2560 8) (ws : FVec Ideal S5120 .f32) : FVec Ideal S24x1x5120 .bf16 :=
  truncf .bf16 (mulf (mulf (addf
      (Host.dotGeneral dot_S24x1x2560_S5120x2560_S24x1x5120_2_1_01_0_n_n none
        (extractStridedSlice S24x1x2560 ![0, 0, 0] (sitofp .bf16 C : FVec Ideal S24x1x5120 .bf16) slices_S24x1x5120_S24x1x2560_0_0_0)
        (sitofp .bf16 (nibR (andi (extui 32 w natLt_8_32) (broadcastInDim S5120x2560 ![] bcast_S_S5120x2560 (constantI S_ 32 15#32)))) : FVec Ideal S5120x2560 .bf16) : FVec Ideal S24x1x5120 .f32)
      (Host.dotGeneral dot_S24x1x2560_S5120x2560_S24x1x5120_2_1_01_0_n_n none
        (extractStridedSlice S24x1x2560 ![0, 0, 2560] (sitofp .bf16 C : FVec Ideal S24x1x5120 .bf16) slices_S24x1x5120_S24x1x2560_0_0_2560)
        (sitofp .bf16 (nibR (Host.shrsi (extui 32 w natLt_8_32) (broadcastInDim S5120x2560 ![] bcast_S_S5120x2560 (constantI S_ 32 4#32)))) : FVec Ideal S5120x2560 .bf16)))
      (broadcastInDim S24x1x5120 ![0, 1, 2] bcast_S24x1x1_S24x1x5120_0_1_2 (broadcastInDim S24x1x1 ![0, 1] bcast_S24x1_S24x1x1_0_1 s)))
    (broadcastInDim S24x1x5120 ![0, 1, 2] bcast_S1x1x5120_S24x1x5120_0_1_2 (broadcastInDim S1x1x5120 ![2] bcast_S5120_S1x1x5120_2 ws))) bitsLt_bf16_f32

/-- The reference's output, over extended reals, is that. -/
theorem res_eq (m : (ℓ : Loc nD τ sig) → Buf (Elt Ideal) ℓ) (c : Dev nD) :
    Cert.ReferenceIdeal.Value.res_out0 m c
      = oR (cR (zR (m ((c.tc : Thread nD τ).loc main_arg0))) (sR (aR (zR (m ((c.tc : Thread nD τ).loc main_arg0))))))
          (sR (aR (zR (m ((c.tc : Thread nD τ).loc main_arg0))))) (m ((c.tc : Thread nD τ).loc main_arg1)) (m ((c.tc : Thread nD τ).loc main_arg2)) := by
  delta Cert.ReferenceIdeal.Value.res_out0 Cert.ReferenceIdeal.Value.res_main_v53 oR cR sR aR zR nibR
  simp only [id]

/-- Entry `p` of row `r` of the rotated input: the signed sum over the heads, normalised. -/
def zRef (x : Vec Ideal S24x1x5120 .bf16) (r : Fin 24) (p : Fin 5120) : EReal :=
  (∑ h : Fin 40, ((hsign h ⟨p.val / 128, by omega⟩ : ℝ) : EReal) * x (ix3 r 0 ⟨h.val * 128 + p.val % 128, by omega⟩))
    * Ideal.ofBits .f32 0x3E21E89B#32

theorem zR_apply (x : Vec Ideal S24x1x5120 .bf16) (r : Fin 24) (p : Fin 5120) : zR x (ix3 r 0 p) = zRef x r p := by
  have hi (h g : Fin 40) : S40x40.rowMajor (ix2 h g) = ⟨40 * h.val + g.val, by have := h.isLt; have := g.isLt; show _ < 1600; omega⟩ :=
    Fin.ext (by rw [Shape.rowMajor_val_two]; show h.val * 40 + g.val = 40 * h.val + g.val; omega)
  pointwise [zR]
  unfold zRef
  congr 1
  refine Finset.sum_congr rfl fun h _ => ?_
  rw [hi, ← lit0_eq]

/-- The scale of row `r` … -/
theorem sR_apply (x : Vec Ideal S24x1x5120 .bf16) (r : Fin 24) : sR (aR (zR x)) (ix2 r 0) = scaleE (amaxE (zRef x r)) := by
  have ha : aR (zR x) (ix2 r 0) = amaxE (zRef x r) := by
    pointwise [aR]
    unfold amaxE
    rw [f32_bot]
    simp only [zR_apply]
    rfl
  have h1 : id (constant S_ .f32 0x3F800000#32 : FVec Ideal S_ .f32) ix0 = ((1 : ℝ) : EReal) := f32_one
  generalize hA : aR (zR x) = A at ha
  pointwise [sR]
  rw [ha, h1, f32_seven]
  rfl

/-- … its codes … -/
theorem cR_apply (x : Vec Ideal S24x1x5120 .bf16) (r : Fin 24) (p : Fin 5120) :
    cR (zR x) (sR (aR (zR x))) (ix3 r 0 p) = Ideal.fptosi 32 (codeE (zRef x r p) (scaleE (amaxE (zRef x r)))) := by
  rw [← sR_apply, ← zR_apply]
  generalize sR (aR (zR x)) = s
  generalize zR x = Z
  have h7 : (FloatOps.sitofp .f32 (7#32 : BitVec 32) : Ideal .f32) = ((7 : ℝ) : EReal) := by
    show (((7#32 : BitVec 32).toInt : ℝ) : EReal) = _
    rw [show (7#32 : BitVec 32).toInt = 7 from by decide]; norm_num
  have hm : (FloatOps.sitofp .f32 (4294967289#32 : BitVec 32) : Ideal .f32) = ((-7 : ℝ) : EReal) := by
    show (((4294967289#32 : BitVec 32).toInt : ℝ) : EReal) = _
    rw [show (4294967289#32 : BitVec 32).toInt = -7 from by decide]; norm_num
  pointwise [cR]
  rw [h7, hm]
  rfl

theorem nibR_lo (w : IVec S5120x2560 8) (o : Fin 5120) (k : Fin 2560) :
    nibR (andi (extui 32 w natLt_8_32) (broadcastInDim S5120x2560 ![] bcast_S_S5120x2560 (constantI S_ 32 15#32))) (ix2 o k)
      = signed4 ((w (ix2 o k)).setWidth 32 &&& 15#32) := rfl
theorem nibR_hi (w : IVec S5120x2560 8) (o : Fin 5120) (k : Fin 2560) :
    nibR (Host.shrsi (extui 32 w natLt_8_32) (broadcastInDim S5120x2560 ![] bcast_S_S5120x2560 (constantI S_ 32 4#32))) (ix2 o k)
      = signed4 (IntOp.shrsi .host ((w (ix2 o k)).setWidth 32) 4#32) := rfl

/-- … and its output: codes times signed four-bit values, summed and scaled. -/
theorem oR_apply (C : IVec S24x1x5120 32) (s : FVec Ideal S24x1 .f32) (w : IVec S5120x2560 8) (ws : FVec Ideal S5120 .f32)
    (r : Fin 24) (o : Fin 5120) :
    oR C s w ws (ix3 r 0 o)
      = (∑ k : Fin 2560, (((C (ix3 r 0 ⟨k.val, by omega⟩)).toInt : ℝ) : EReal) * (((((loB (w (ix2 o k))).toNat : ℤ) - 8 : ℤ) : ℝ) : EReal)
          + ∑ k : Fin 2560, (((C (ix3 r 0 ⟨2560 + k.val, by omega⟩)).toInt : ℝ) : EReal) * (((((hiB (w (ix2 o k))).toNat : ℤ) - 8 : ℤ) : ℝ) : EReal))
        * s (ix2 r 0) * ws (ix1 o) := by
  simp only [← signed4_lo, ← signed4_hi, ← nibR_lo, ← nibR_hi]
  unfold oR
  generalize nibR (andi (extui 32 w natLt_8_32) (broadcastInDim S5120x2560 ![] bcast_S_S5120x2560 (constantI S_ 32 15#32))) = A
  generalize nibR (Host.shrsi (extui 32 w natLt_8_32) (broadcastInDim S5120x2560 ![] bcast_S_S5120x2560 (constantI S_ 32 4#32))) = B
  pointwise
  rfl

end Cert.ReferenceIdeal.Hand

end
-- ==== Proof.Meet.lean ====
/- The kernel's three results are the reference's. -/
module

public import proofs.«01_k».proof.Proof.Arrays
public import proofs.«01_k».proof.Proof.OutRead
public import proofs.«01_k».proof.Proof.RRead

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (zR aR sR cR oR zRef sR_apply cR_apply oR_apply)

/-- An index of a column is its row … -/
theorem idx2 (j : S24x1.Idx) : ∃ r : Fin 24, j = ix2 r 0 :=
  ⟨j 0, by
    funext a
    match a with
    | ⟨0, _⟩ => rfl
    | ⟨1, _⟩ => exact Fin.ext (by have h : (j 1).val < 1 := (j 1).isLt; show (j 1).val = 0; omega)⟩

/-- … and an index of a three-axis result its row and its column. -/
theorem idx3 (j : S24x1x5120.Idx) : ∃ (r : Fin 24) (o : Fin 5120), j = ix3 r 0 o :=
  ⟨j 0, j 2, by
    funext a
    match a with
    | ⟨0, _⟩ => rfl
    | ⟨1, _⟩ => exact Fin.ext (by have h : (j 1).val < 1 := (j 1).isLt; show (j 1).val = 0; omega)
    | ⟨2, _⟩ => rfl⟩

/-- The weights' scales as a row. -/
theorem row_apply (v : FVec Ideal S5120 .f32) (o : Fin 5120) : shapeCast S1x5120 v shapeCasts_S5120_S1x5120 (ix2 0 o) = v (ix1 o) := by
  pointwise

/-- The flat input of a three-axis one. -/
def flat (x : Vec Ideal S24x1x5120 .bf16) : Vec Ideal S24x5120 .bf16 := shapeCast S24x5120 x shapeCasts_S24x1x5120_S24x5120

theorem flat_apply (x : Vec Ideal S24x1x5120 .bf16) (r : Fin 24) (p : Fin 5120) : flat x (ix2 r p) = x (ix3 r 0 p) := by
  pointwise [flat]

/-- Every rotated entry of the kernel agrees with the reference's. -/
theorem zRow_agree (x : Vec Ideal S24x1x5120 .bf16) (r : Fin 24) (p : Fin 5120) : Agree (zRow (flat x) r p) (zRef x r p) := by
  obtain ⟨c, hc, h⟩ := f32_norm
  unfold zRow zRef
  rw [zV_apply, h]
  refine Agree.mul_coe ?_ c hc
  simp only [flat_apply]
  have e := rot_agree (fun h : Fin 40 => x (ix3 r 0 ⟨128 * h.val + p.val % 128, by omega⟩)) ⟨p.val / 128, by omega⟩
  simp only [fun h : Fin 40 => Nat.mul_comm h.val 128]
  exact e

theorem scaleRow_eq (x : Vec Ideal S24x1x5120 .bf16) (r : Fin 24) : scaleRow (flat x) r = scaleE (amaxE (zRef x r)) := by
  unfold scaleRow
  rw [amaxE_congr (zRow_agree x r)]

theorem codeRow_eq (x : Vec Ideal S24x1x5120 .bf16) (r : Fin 24) (p : Fin 5120) :
    codeRow (flat x) r p = codeE (zRef x r p) (scaleE (amaxE (zRef x r))) := by
  unfold codeRow scaleRow
  rw [codeE_congr (zRow_agree x r) p, amaxE_congr (zRow_agree x r)]

/-- The scales are the reference's, … -/
theorem scale_eq (x : Vec Ideal S24x1x5120 .bf16) : scaleV (flat x) = sR (aR (zR x)) := by
  funext j
  obtain ⟨r, rfl⟩ := idx2 j
  exact (scaleV_apply _ _).trans ((scaleRow_eq x _).trans (sR_apply x _).symm)

/-- … the codes are, … -/
theorem codes_eq (x : Vec Ideal S24x1x5120 .bf16) :
    shapeCast S24x1x5120 (codesV (flat x)) shapeCasts_S24x5120_S24x1x5120
      = (trunci 8 (cR (zR x) (sR (aR (zR x)))) (by decide) : IVec S24x1x5120 8) := by
  funext j
  obtain ⟨r, o, rfl⟩ := idx3 j
  have hl : shapeCast S24x1x5120 (codesV (flat x)) shapeCasts_S24x5120_S24x1x5120 (ix3 r 0 o) = codesV (flat x) (ix2 r o) := by
    generalize codesV (flat x) = v
    pointwise
  refine hl.trans ((codesV_apply _ _ _).trans ?_)
  rw [codeRow_eq, fptosi_codeE_8]
  exact congrArg (BitVec.setWidth 8) (cR_apply x _ _).symm

variable (m : (ℓ : Loc nD τ sig) → Buf (Elt Ideal) ℓ)

/-- The flat result at an index. -/
theorem outFlat_apply (c : Dev nD) (r : Fin 24) (o : Fin 5120) :
    outFlat m c (ix2 r o)
      = (∑ k : Fin 2560, codeRow (xIn m c) r ⟨k.val, by omega⟩ * (((((loB (m ((c.tc : Thread nD τ).loc main_arg1) (ix2 o k))).toNat : ℤ) - 8 : ℤ) : ℝ) : EReal)
          + ∑ k : Fin 2560, codeRow (xIn m c) r ⟨2560 + k.val, by omega⟩ * (((((hiB (m ((c.tc : Thread nD τ).loc main_arg1) (ix2 o k))).toNat : ℤ) - 8 : ℤ) : ℝ) : EReal))
        * scaleRow (xIn m c) r * m ((c.tc : Thread nD τ).loc main_arg2) (ix1 o) := by
  have ho : o.val / 512 * 512 + o.val % 512 = o.val := by omega
  show outV (lhsV (xIn m c)) (sumV (xIn m c)) (scaleV (xIn m c)) (iblk m c 1 (pointOf (ix2 r o))) (iblk m c 2 (pointOf (ix2 r o)))
    (ix2 r ⟨o.val % 512, Nat.mod_lt _ (by decide)⟩) = _
  have hw (k : Fin 2560) : iblk m c 1 (pointOf (ix2 r o)) (ix2 ⟨o.val % 512, Nat.mod_lt _ (by decide)⟩ k)
      = m ((c.tc : Thread nD τ).loc main_arg1) (ix2 o k) := by
    rw [iblk_1 m c (pointOf (ix2 r o)) (ix2 ⟨o.val % 512, Nat.mod_lt _ (by decide)⟩ k) (by show o.val / 512 * 512 + o.val % 512 < 5120; omega)]
    congr 2
    exact Fin.ext ho
  have hs : iblk m c 2 (pointOf (ix2 r o)) (ix2 0 ⟨o.val % 512, Nat.mod_lt _ (by decide)⟩)
      = m ((c.tc : Thread nD τ).loc main_arg2) (ix1 o) := by
    rw [iblk_2 m c (pointOf (ix2 r o)) (ix2 0 ⟨o.val % 512, Nat.mod_lt _ (by decide)⟩) (by show o.val / 512 * 512 + o.val % 512 < 5120; omega), V_main_v1]
    have e : (⟨o.val / 512 * 512 + o.val % 512, by omega⟩ : Fin 5120) = o := Fin.ext ho
    show shapeCast S1x5120 (m ((c.tc : Thread nD τ).loc main_arg2)) shapeCasts_S5120_S1x5120 (ix2 0 (⟨o.val / 512 * 512 + o.val % 512, by omega⟩ : Fin 5120)) = _
    rw [e]
    exact row_apply _ o
  rw [outV_apply, hs]
  simp only [hw, lhsV_apply, sumV_apply, scaleV_apply]
  rw [offset_off (codeRow (xIn m c) r) fun p => (codeE_int _ _).imp fun n h => h.2.2]

/-- … and the output is. -/
theorem out_eq (c : Dev nD) :
    shapeCast S24x1x5120 (outFlat m c) shapeCasts_S24x5120_S24x1x5120
      = oR (cR (zR (m ((c.tc : Thread nD τ).loc main_arg0))) (sR (aR (zR (m ((c.tc : Thread nD τ).loc main_arg0))))))
          (sR (aR (zR (m ((c.tc : Thread nD τ).loc main_arg0))))) (m ((c.tc : Thread nD τ).loc main_arg1)) (m ((c.tc : Thread nD τ).loc main_arg2)) := by
  funext j
  obtain ⟨r, o, rfl⟩ := idx3 j
  have hl : shapeCast S24x1x5120 (outFlat m c) shapeCasts_S24x5120_S24x1x5120 (ix3 r 0 o) = outFlat m c (ix2 r o) := by
    generalize outFlat m c = v
    pointwise
  refine hl.trans ((outFlat_apply m c _ _).trans ?_)
  have hx : xIn m c = flat (m ((c.tc : Thread nD τ).loc main_arg0)) := xIn_eq m c
  refine Eq.trans ?_ (oR_apply _ _ _ _ _ _).symm
  rw [hx, sR_apply]
  simp only [codeRow_eq, scaleRow_eq, cR_apply, toInt_fptosi_codeE]

end Cert.KernelIdeal.Hand

end
-- ==== Proof.Same.lean ====
/- The kernel as printed and the kernel read over the extended reals are one program: no operation was rewritten, so
   what is proved of the one's text at any float semantics holds of the other's. -/
module

public import proofs.«01_k».proof.Defs
public import proofs.«01_k».proof.Proof.Body
public import proofs.«01_k».proof.Proof.Gen.Kernel

@[expose] public section

set_option maxRecDepth 16384

noncomputable section

namespace Cert.Proof

open Idealize.ShloMosaic Idealize.SL.Sem

attribute [local instance] Cert.Kernel.Gen.facts Cert.KernelIdeal.Gen.facts

variable {F : FTy → Type} [FloatOps F]

/-- The two bodies are the same program. -/
theorem body_same : @Cert.Kernel.cc0_quarot_oproj F _ _ = @Cert.KernelIdeal.cc0_quarot_oproj F _ _ := rfl

/-- So are the two tables of bodies, … -/
theorem defs₀_same : @Cert.Kernel.defs₀ F _ _ = @Cert.KernelIdeal.defs₀ F _ _ := by
  show Defs.onTc _ = Defs.onTc _
  congr 1
  funext ℓ a
  match ℓ, a with
  | 0, (t, s) => rfl
  | ⟨_ + 1, h⟩, _ => exact absurd h (Nat.not_lt.2 (Nat.le_add_left _ _))

/-- … with the launch's own rows added, … -/
theorem defs_same : @Cert.Kernel.defs F _ _ = @Cert.KernelIdeal.defs F _ _ :=
  congrArg (Pipeline.defs Cert.KernelIdeal.pcfgs) defs₀_same

/-- … and the two main programs. -/
theorem main_same : @Cert.Kernel.main F _ = @Cert.KernelIdeal.main F _ := rfl

/-- The printed kernel runs, leaves its arguments alone and its counters at zero. -/
theorem frame_kernel : Cert.quiescent_Kernel := fun m ρ _ => by
  rw [defs_same]
  exact Cert.KernelIdeal.Hand.frame (F := Bits) m ρ

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Meet
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel over the extended reals runs, leaves its arguments alone and its counters at zero … -/
theorem frame_kernelIdeal : Cert.quiescent_KernelIdeal (hKernelIdeal := Cert.KernelIdeal.Gen.facts) := fun m ρ _ =>
  Cert.KernelIdeal.Hand.frame m ρ

/-- … and so does the reference, which has no counter. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- From one input, the kernel and the reference over the extended reals leave the same three results. -/
theorem algebraic : Cert.algebraic_KernelIdeal_ReferenceIdeal (hKernelIdeal := Cert.KernelIdeal.Gen.facts)
    (hReferenceIdeal := Cert.ReferenceIdeal.Gen.facts) := fun m g m' g' _ hagree =>
  ⟨_, _, _, Cert.KernelIdeal.Hand.run_values m g,
    (θ_run Cert.ReferenceIdeal.defs _ _).mono (fun _ h c => by
      obtain ⟨h0, h1, h2, hargs⟩ := h c
      obtain ⟨a0, a1, a2⟩ := hagree c
      have hx : Cert.KernelIdeal.Hand.xIn m c = Cert.KernelIdeal.Hand.flat (m ((c.tc : Thread _ _).loc Cert.KernelIdeal.main_arg0)) :=
        Cert.KernelIdeal.Hand.xIn_eq m c
      refine ⟨h0.trans ?_, h1.trans ?_, h2.trans ?_, hargs⟩
      · refine (Cert.ReferenceIdeal.Hand.res_eq m' c).trans ?_
        rw [a0, a1, a2]
        exact (Cert.KernelIdeal.Hand.out_eq m c).symm
      · rw [a0, hx]
        refine Eq.trans ?_ (Cert.KernelIdeal.Hand.codes_eq _).symm
        delta Cert.ReferenceIdeal.Hand.cR Cert.ReferenceIdeal.Hand.sR Cert.ReferenceIdeal.Hand.aR Cert.ReferenceIdeal.Hand.zR
        simp only [id]
      · rw [a0, hx]
        refine Eq.trans ?_ (Cert.KernelIdeal.Hand.scale_eq _).symm
        delta Cert.ReferenceIdeal.Hand.sR Cert.ReferenceIdeal.Hand.aR Cert.ReferenceIdeal.Hand.zR
        simp only [id])
      (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
